-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![16384, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![16384, 256]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 256]⟩ ⟨2, ![16384, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![16384, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)

variable [Facts]

def fn {F : FTy → Type} [FloatOps F] (main_arg0 : FVec F S4096x256 .bf16) (main_arg1 : FVec F S4096x256 .bf16) (main_arg2 : FVec F S4096x256 .bf16) : IVec S4096x256 1 × IVec S4096x256 1 :=
  let main_v0 : FVec F S4096x256 .bf16 := Host.absf main_arg0
  let main_cst : FVec F S_ .bf16 := constant S_ .bf16 0x7F80#16
  let main_v1 : FVec F S4096x256 .bf16 := broadcastInDim S4096x256 ![] bcast_S_S4096x256 main_cst
  let main_v2 : IVec S4096x256 1 := cmpf .olt main_v0 main_v1
  let main_v3 : FVec F S4096x256 .bf16 := Host.absf main_arg1
  let main_cst_0 : FVec F S_ .bf16 := constant S_ .bf16 0x7F80#16
  let main_v4 : FVec F S4096x256 .bf16 := broadcastInDim S4096x256 ![] bcast_S_S4096x256 main_cst_0
  let main_v5 : IVec S4096x256 1 := cmpf .olt main_v3 main_v4
  (main_v2, main_v5)
-- ==== Pre_finite_scores_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384x256 .bf16) (main_arg1 : FVec F S16384x256 .bf16) (main_arg2 : FVec F S16384x256 .bf16) : IVec S16384x256 1 × IVec S16384x256 1 :=
  let main_v0 : FVec F S16384x256 .bf16 := Host.absf main_arg0
  let main_cst : FVec F S_ .bf16 := constant S_ .bf16 0x7F80#16
  let main_v1 : FVec F S16384x256 .bf16 := broadcastInDim S16384x256 ![] bcast_S_S16384x256 main_cst
  let main_v2 : IVec S16384x256 1 := cmpf .olt main_v0 main_v1
  let main_v3 : FVec F S16384x256 .bf16 := Host.absf main_arg1
  let main_cst_0 : FVec F S_ .bf16 := constant S_ .bf16 0x7F80#16
  let main_v4 : FVec F S16384x256 .bf16 := broadcastInDim S16384x256 ![] bcast_S_S16384x256 main_cst_0
  let main_v5 : IVec S16384x256 1 := cmpf .olt main_v3 main_v4
  (main_v2, main_v5)
-- ==== Kernel.lean ====
abbrev S4096x256 : Shape := ⟨2, ![4096, 256]⟩
abbrev S4x4096x256 : Shape := ⟨3, ![4, 4096, 256]⟩
abbrev S4096x1 : Shape := ⟨2, ![4096, 1]⟩
abbrev S3 : Shape := ⟨1, ![3]⟩
abbrev S_ : Shape := ⟨0, ![]⟩
abbrev S1x4096x256 : Shape := ⟨3, ![1, 4096, 256]⟩
abbrev S1 : Shape := ⟨1, ![1]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x256, .bf16⟩
  | .hbm, ⟨3, _⟩ => ⟨S4096x256, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .f32⟩
  | .local _ .vmem, ⟨4, _⟩ => ⟨S4096x256, .bf16⟩
  | .local _ .vmem, ⟨5, _⟩ => ⟨S4x4096x256, .bf16⟩
  | .local _ .vmem, ⟨6, _⟩ => ⟨S4x4096x256, .bf16⟩
  | .local _ .vmem, ⟨7, _⟩ => ⟨S4096x1, .f32⟩
  | .local _ .vmem, ⟨8, _⟩ => ⟨S4096x256, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_23 : BitVec 32 := 1#32
  let v23 : BitVec 32 := Scalar.muli v7 c1_i32_23
  let v24 : BitVec 32 := Scalar.addi c0_i32_24 v23
  v24.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_33 : BitVec 32 := 1#32
  let v33 : BitVec 32 := Scalar.muli v7 c1_i32_33
  let v34 : BitVec 32 := Scalar.addi c0_i32_34 v33
  v34.toNat
@[reducible] def k0_t1_loop : Scf.Loop 32 :=
  let c0_i32_43 : BitVec 32 := 0#32
  let c8_i32 : BitVec 32 := 8#32
  let v50 : BitVec 32 := Scalar.addi c0_i32_43 c8_i32
  let c1_i32_44 : BitVec 32 := 1#32
  ⟨c0_i32_43, v50, c1_i32_44⟩
def k0_off1 (k0_t1 : Fin k0_t1_loop.trips) : Fin 2 → Nat :=
  let c0_i32_43 : BitVec 32 := 0#32
  let c1_i32_44 : BitVec 32 := 1#32
  let arg13 : BitVec 32 := Scf.iv c0_i32_43 c1_i32_44 k0_t1
  let c512_i32 : BitVec 32 := 512#32
  let v178 : BitVec 32 := Scalar.muli arg13 c512_i32
  let v179 : Index := Scalar.indexCast v178
  let c0_211 : Index := 0#32
  ![v179.toNat, 0]
def k0_off2 (k0_t1 : Fin k0_t1_loop.trips) : Fin 2 → Nat :=
  let c0_i32_43 : BitVec 32 := 0#32
  let c1_i32_44 : BitVec 32 := 1#32
  let arg13 : BitVec 32 := Scf.iv c0_i32_43 c1_i32_44 k0_t1
  let c512_i32 : BitVec 32 := 512#32
  let v178 : BitVec 32 := Scalar.muli arg13 c512_i32
  let v191 : Index := Scalar.indexCast v178
  let c0_221 : Index := 0#32
  ![v191.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_88 : BitVec 32 := 1#32
  let v79 : BitVec 32 := Scalar.muli v7 c1_i32_88
  let v80 : BitVec 32 := Scalar.addi c0_i32_89 v79
  v80.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_98 : BitVec 32 := 1#32
  let v89 : BitVec 32 := Scalar.muli v7 c1_i32_98
  let v90 : BitVec 32 := Scalar.addi c0_i32_99 v89
  v90.toNat
@[reducible] def k0_t2_loop : Scf.Loop 32 :=
  let c0_i32_104 : BitVec 32 := 0#32
  let c8_i32_105 : BitVec 32 := 8#32
  let v99 : BitVec 32 := Scalar.addi c0_i32_104 c8_i32_105
  let c1_i32_106 : BitVec 32 := 1#32
  ⟨c0_i32_104, v99, c1_i32_106⟩
def k0_off3 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c512_i32 : BitVec 32 := 512#32
  let v178 : BitVec 32 := Scalar.muli arg13 c512_i32
  let v179 : Index := Scalar.indexCast v178
  let c0_211 : Index := 0#32
  ![v179.toNat, 0]
def k0_off4 (k0_t2 : Fin k0_t2_loop.trips) : Fin 2 → Nat :=
  let c0_i32_104 : BitVec 32 := 0#32
  let c1_i32_106 : BitVec 32 := 1#32
  let arg13 : BitVec 32 := Scf.iv c0_i32_104 c1_i32_106 k0_t2
  let c512_i32 : BitVec 32 := 512#32
  let v178 : BitVec 32 := Scalar.muli arg13 c512_i32
  let v191 : Index := Scalar.indexCast v178
  let c0_220 : Index := 0#32
  ![v191.toNat, 0]
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_149 : BitVec 32 := 1#32
  let v128 : BitVec 32 := Scalar.muli v7 c1_i32_149
  let v129 : BitVec 32 := Scalar.addi c0_i32_150 v128
  v129.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_159 : BitVec 32 := 1#32
  let v138 : BitVec 32 := Scalar.muli v7 c1_i32_159
  let v139 : BitVec 32 := Scalar.addi c0_i32_160 v138
  v139.toNat
@[reducible] def k0_t3_loop : Scf.Loop 32 :=
  let c0_i32_165 : BitVec 32 := 0#32
  let c8_i32_166 : BitVec 32 := 8#32
  let v148 : BitVec 32 := Scalar.addi c0_i32_165 c8_i32_166
  let c1_i32_167 : BitVec 32 := 1#32
  ⟨c0_i32_165, v148, c1_i32_167⟩
def k0_off5 (k0_t3 : Fin k0_t3_loop.trips) : Fin 2 → Nat :=
  let c0_i32_165 : BitVec 32 := 0#32
  let c1_i32_167 : BitVec 32 := 1#32
  let arg13 : BitVec 32 := Scf.iv c0_i32_165 c1_i32_167 k0_t3
  let c512_i32 : BitVec 32 := 512#32
  let v178 : BitVec 32 := Scalar.muli arg13 c512_i32
  let v179 : Index := Scalar.indexCast v178
  let c0_211 : Index := 0#32
  ![v179.toNat, 0]
def k0_off6 (k0_t3 : Fin k0_t3_loop.trips) : Fin 2 → Nat :=
  let c0_i32_165 : BitVec 32 := 0#32
  let c1_i32_167 : BitVec 32 := 1#32
  let arg13 : BitVec 32 := Scf.iv c0_i32_165 c1_i32_167 k0_t3
  let c512_i32 : BitVec 32 := 512#32
  let v178 : BitVec 32 := Scalar.muli arg13 c512_i32
  let v191 : Index := Scalar.indexCast v178
  let c0_220 : Index := 0#32
  ![v191.toNat, 0]
@[reducible] def k0_t4_loop : Scf.Loop 32 :=
  let c0_i32_207 : BitVec 32 := 0#32
  let c8_i32_208 : BitVec 32 := 8#32
  let v177 : BitVec 32 := Scalar.addi c0_i32_207 c8_i32_208
  let c1_i32_209 : BitVec 32 := 1#32
  ⟨c0_i32_207, v177, c1_i32_209⟩
def k0_off7 (k0_t4 : Fin k0_t4_loop.trips) : Fin 2 → Nat :=
  let c0_i32_207 : BitVec 32 := 0#32
  let c1_i32_209 : BitVec 32 := 1#32
  let arg13 : BitVec 32 := Scf.iv c0_i32_207 c1_i32_209 k0_t4
  let c512_i32 : BitVec 32 := 512#32
  let v178 : BitVec 32 := Scalar.muli arg13 c512_i32
  let v179 : Index := Scalar.indexCast v178
  let c0_211 : Index := 0#32
  ![v179.toNat, 0]
def k0_off8 (k0_t4 : Fin k0_t4_loop.trips) : Fin 2 → Nat :=
  let c0_i32_207 : BitVec 32 := 0#32
  let c1_i32_209 : BitVec 32 := 1#32
  let arg13 : BitVec 32 := Scf.iv c0_i32_207 c1_i32_209 k0_t4
  let c512_i32 : BitVec 32 := 512#32
  let v178 : BitVec 32 := Scalar.muli arg13 c512_i32
  let v194 : Index := Scalar.indexCast v178
  let c0_221 : Index := 0#32
  ![v194.toNat, 0]
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S256x16384, .f32⟩
  | .hbm, ⟨7, _⟩ => ⟨S16384x16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Ideal.Rows.lean ====
/-
# The loop's row blocks

Every loop of the kernel visits the 4096 rows of a device in eight blocks of 512. This module says what one block
of an array is (`rowBlk`), how an array is put together from its eight blocks (`stack`), and what an array holds
between two trips of a loop (`partly`): the rows already visited at their new value, the others as before.
-/
module

public import proofs.«01_k».proof.Proof.Gen.KernelIdeal
public import Idealize.ShloMosaic.Lib.Pipeline.ValueKit.Geometry

@[expose] public section

noncomputable section

namespace Cert.KernelIdeal.Ring

open Idealize.ShloMosaic Idealize.SL.Sem

variable {α : Type}

/-- A two-dimensional array of 4096 rows, and one of 512. -/
abbrev Tall (n : ℕ) : Shape := ⟨2, ![4096, n]⟩
abbrev Short (n : ℕ) : Shape := ⟨2, ![512, n]⟩

/-- The element of the tall array that is row `j 0` of block `k`. -/
def rowIdx {n : ℕ} (k : Fin 8) (j : (Short n).Idx) : (Tall n).Idx := fun a =>
  match a with
  | ⟨0, _⟩ => ⟨512 * k.val + (j (0 : Fin 2)).val, by
      have := (j (0 : Fin 2)).isLt; have hk := k.isLt
      show _ < 4096
      have h : (j (0 : Fin 2)).val < 512 := (j (0 : Fin 2)).isLt
      omega⟩
  | ⟨1, _⟩ => ⟨(j (1 : Fin 2)).val, (j (1 : Fin 2)).isLt⟩

/-- Block `k` of an array. -/
def rowBlk {n : ℕ} (f : (Tall n).Idx → α) (k : Fin 8) : (Short n).Idx → α := fun j => f (rowIdx k j)

/-- The block a row lies in, and its place there. -/
def blkOf {n : ℕ} (i : (Tall n).Idx) : Fin 8 :=
  ⟨(i (0 : Fin 2)).val / 512, by have h : (i (0 : Fin 2)).val < 4096 := (i (0 : Fin 2)).isLt; omega⟩
def inBlk {n : ℕ} (i : (Tall n).Idx) : (Short n).Idx := fun a =>
  match a with
  | ⟨0, _⟩ => ⟨(i (0 : Fin 2)).val % 512, Nat.mod_lt _ (by decide)⟩
  | ⟨1, _⟩ => ⟨(i (1 : Fin 2)).val, (i (1 : Fin 2)).isLt⟩

/-- The array whose block `k` is `g k`. -/
def stack {n : ℕ} (g : Fin 8 → (Short n).Idx → α) : (Tall n).Idx → α := fun i => g (blkOf i) (inBlk i)

theorem rowIdx_zero {n : ℕ} (k : Fin 8) (j : (Short n).Idx) :
    (rowIdx k j (0 : Fin 2)).val = 512 * k.val + (j (0 : Fin 2)).val := rfl

theorem blkOf_rowIdx {n : ℕ} (k : Fin 8) (j : (Short n).Idx) : blkOf (rowIdx k j) = k := by
  have h : (j (0 : Fin 2)).val < 512 := (j (0 : Fin 2)).isLt
  refine Fin.ext ?_
  show (512 * k.val + (j (0 : Fin 2)).val) / 512 = k.val
  omega

theorem inBlk_rowIdx {n : ℕ} (k : Fin 8) (j : (Short n).Idx) : inBlk (rowIdx k j) = j := by
  have h : (j (0 : Fin 2)).val < 512 := (j (0 : Fin 2)).isLt
  funext a
  refine Fin.ext ?_
  match a with
  | ⟨0, _⟩ => show (512 * k.val + (j (0 : Fin 2)).val) % 512 = (j (0 : Fin 2)).val; omega
  | ⟨1, _⟩ => rfl

/-- Block `k` of the array put together from `g` is `g k`. -/
theorem rowBlk_stack {n : ℕ} (g : Fin 8 → (Short n).Idx → α) (k : Fin 8) : rowBlk (stack g) k = g k := by
  funext j
  show g (blkOf (rowIdx k j)) (inBlk (rowIdx k j)) = g k j
  rw [blkOf_rowIdx, inBlk_rowIdx]

/-- What an array holds before trip `k` of a loop that turns `old` into `new`. -/
def partly {n : ℕ} (new old : (Tall n).Idx → α) (k : ℕ) : (Tall n).Idx → α :=
  fun i => if (i (0 : Fin 2)).val < 512 * k then new i else old i

theorem partly_start {n : ℕ} (new old : (Tall n).Idx → α) : partly new old 0 = old := by
  funext i; exact if_neg (by omega)

theorem partly_done {n : ℕ} (new old : (Tall n).Idx → α) : partly new old 8 = new := by
  funext i
  exact if_pos (by have h : (i (0 : Fin 2)).val < 4096 := (i (0 : Fin 2)).isLt; omega)

/-- Trip `k` finds its own block as it was. -/
theorem rowBlk_partly {n : ℕ} (new old : (Tall n).Idx → α) (k : Fin 8) :
    rowBlk (partly new old k.val) k = rowBlk old k := by
  funext j
  exact if_neg (by rw [rowIdx_zero]; omega)

/-- Trip `k` leaves its own block new. -/
theorem partly_rowIdx {n : ℕ} (new old : (Tall n).Idx → α) (k : Fin 8) (j : (Short n).Idx) :
    partly new old (k.val + 1) (rowIdx k j) = rowBlk new k j := by
  have h : (j (0 : Fin 2)).val < 512 := (j (0 : Fin 2)).isLt
  exact if_pos (by rw [rowIdx_zero]; omega)

/-- Trip `k` leaves every other row. -/
theorem partly_off {n : ℕ} (new old : (Tall n).Idx → α) (k : Fin 8) (i : (Tall n).Idx)
    (h : ¬(512 * k.val ≤ (i (0 : Fin 2)).val ∧ (i (0 : Fin 2)).val < 512 * k.val + 512)) :
    partly new old (k.val + 1) i = partly new old k.val i := by
  unfold partly
  by_cases h1 : (i (0 : Fin 2)).val < 512 * k.val
  · rw [if_pos h1, if_pos (by omega)]
  · rw [if_neg h1, if_neg (by omega)]

/-! ## The accesses of a trip -/

/-- An index of the rectangle of 512 rows from row `512 k`, placed in the array. -/
theorem emb_rows {n : ℕ} (k : Fin 8) (off : Fin 2 → ℕ) (hoff : off = ![512 * k.val, 0])
    (inb : ∀ a, off a + (Short n).size a ≤ (Tall n).size a) (j : (Short n).Idx) :
    (Rect.unit (s := Tall n) off (Short n).size inb).emb j = rowIdx k j := by
  subst hoff
  funext a
  refine Fin.ext ?_
  rw [ValueKit.rect_emb_unit_val]
  match a with
  | ⟨0, _⟩ => rfl
  | ⟨1, _⟩ => exact Nat.zero_add _

/-- A row outside the rectangle. -/
theorem not_mem_rows {n : ℕ} (k : Fin 8) (off : Fin 2 → ℕ) (hoff : off = ![512 * k.val, 0])
    (inb : ∀ a, off a + (Short n).size a ≤ (Tall n).size a) (i : (Tall n).Idx)
    (hi : i ∉ (Rect.unit (s := Tall n) off (Short n).size inb).set) :
    ¬(512 * k.val ≤ (i (0 : Fin 2)).val ∧ (i (0 : Fin 2)).val < 512 * k.val + 512) := by
  subst hoff
  intro h
  refine hi (Rect.mem_set_unit.mpr fun a => ?_)
  match a with
  | ⟨0, _⟩ => exact h
  | ⟨1, _⟩ =>
    have h1 : (i (1 : Fin 2)).val < n := (i (1 : Fin 2)).isLt
    exact ⟨Nat.zero_le _, by show (i (1 : Fin 2)).val < 0 + n; omega⟩

end Cert.KernelIdeal.Ring

end
-- ==== Proof.Ideal.Trips.lean ====
/-
# One trip of each loop

The kernel runs four loops, one per block of keys and values. The first stores the row sums and the products, the
second and third add to them, the fourth adds the last block and divides. Each loop's trip is stated once: it turns
the rows of block `k` of its target arrays from their old value into the new one, and reads everything else.
The gathered keys and values are held slot by slot, at any share: a loop reads a slot while a copy reads it too.
-/
module

public import proofs.«01_k».proof.Proof.Ideal.Rows
public import proofs.«01_k».proof.Proof.Gen.KernelIdeal.Skeleton
public import proofs.«01_k».proof.Proof.Gen.KernelIdeal.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, and the ring's with two duties a round at most. -/
abbrev RingRounds : Type := URounds (GSem nD τ sig) Bool
abbrev Ghost : Type := UR sig nD τ × RingRounds

local notation "𝕄" => MT nD τ sig Unit (Elt F) ℕ Ghost ℕ

/-- No call in the body needs a variant. -/
abbrev 𝒱r : Variants := Variants.none

/-! ## The buffers -/

abbrev qM : Memref sig .tc .vmem S4096x256 .bf16 := Memref.whole cc0_stg0_0
abbrev kM : Memref sig .tc .vmem S4096x256 .bf16 := Memref.whole cc0_stg1_0
abbrev vM : Memref sig .tc .vmem S4096x256 .bf16 := Memref.whole cc0_stg2_0
abbrev outM : Memref sig .tc .vmem S4096x256 .f32 := Memref.whole cc0_stg3_0
abbrev qsM : Memref sig .tc .vmem S4096x256 .bf16 := Memref.whole cc0_scratch0
abbrev kgM : Memref sig .tc .vmem S4x4096x256 .bf16 := Memref.whole cc0_scratch1
abbrev vgM : Memref sig .tc .vmem S4x4096x256 .bf16 := Memref.whole cc0_scratch2
abbrev lM : Memref sig .tc .vmem S4096x1 .f32 := Memref.whole cc0_scratch3
abbrev accM : Memref sig .tc .vmem S4096x256 .f32 := Memref.whole cc0_scratch4

/-! ## The slots of a gathered buffer -/

/-- Slot `n` lies inside the buffer. -/
abbrev SlotIn (n : ℕ) : Prop := ∀ a, (![n, 0, 0] : Fin 3 → ℕ) a + S1x4096x256.size a ≤ S4x4096x256.size a

/-- The rectangle of slot `n`. -/
abbrev slotRect (n : ℕ) (h : SlotIn n) : Rect S4x4096x256 := Rect.unit (s := S4x4096x256) ![n, 0, 0] S1x4096x256.size h

/-- The elements of slot `n`. -/
def slotSet (n : Fin 4) : Finset S4x4096x256.Idx := Finset.univ.filter fun i => (i (0 : Fin 3)).val = n.val

theorem slotRect_set (n : Fin 4) (h : SlotIn n.val) : (slotRect n.val h).set = slotSet n := by
  ext i
  rw [Rect.mem_set_unit]
  unfold slotSet
  rw [Finset.mem_filter]
  constructor
  · intro hi
    refine ⟨Finset.mem_univ _, ?_⟩
    have h0 : n.val ≤ (i (0 : Fin 3)).val ∧ (i (0 : Fin 3)).val < n.val + 1 := hi 0
    omega
  · rintro ⟨-, h0⟩ a
    match a with
    | ⟨0, _⟩ => exact ⟨h0.ge, by show (i (0 : Fin 3)).val < n.val + 1; omega⟩
    | ⟨1, _⟩ => exact ⟨Nat.zero_le _, by have : (i (1 : Fin 3)).val < 4096 := (i (1 : Fin 3)).isLt; show (i (1 : Fin 3)).val < 0 + 4096; omega⟩
    | ⟨2, _⟩ => exact ⟨Nat.zero_le _, by have : (i (2 : Fin 3)).val < 256 := (i (2 : Fin 3)).isLt; show (i (2 : Fin 3)).val < 0 + 256; omega⟩

/-- An element's place in its slot. -/
def inSlot (i : S4x4096x256.Idx) : S1x4096x256.Idx := fun a =>
  match a with
  | ⟨0, _⟩ => ⟨0, Nat.one_pos⟩
  | ⟨1, _⟩ => ⟨(i (1 : Fin 3)).val, (i (1 : Fin 3)).isLt⟩
  | ⟨2, _⟩ => ⟨(i (2 : Fin 3)).val, (i (2 : Fin 3)).isLt⟩

/-- The gathered buffer whose slot `n` holds `G n`. -/
def gather (G : Fin 4 → Vec F S1x4096x256 .bf16) : S4x4096x256.Idx → Elt F .bf16 := fun i => G (i (0 : Fin 3)) (inSlot i)

theorem slot_emb (n : Fin 4) (h : SlotIn n.val) (j : S1x4096x256.Idx) :
    ((slotRect n.val h).emb j) (0 : Fin 3) = n ∧ inSlot ((slotRect n.val h).emb j) = j := by
  have h0 : (j (0 : Fin 3)).val < 1 := (j (0 : Fin 3)).isLt
  constructor
  · refine Fin.ext ?_
    rw [ValueKit.rect_emb_unit_val]
    show n.val + (j (0 : Fin 3)).val = n.val
    omega
  · funext a
    refine Fin.ext ?_
    match a with
    | ⟨0, _⟩ => show 0 = (j (0 : Fin 3)).val; omega
    | ⟨1, _⟩ =>
      show ((slotRect n.val h).emb j (1 : Fin 3)).val = _
      rw [ValueKit.rect_emb_unit_val]; exact Nat.zero_add _
    | ⟨2, _⟩ =>
      show ((slotRect n.val h).emb j (2 : Fin 3)).val = _
      rw [ValueKit.rect_emb_unit_val]; exact Nat.zero_add _

/-- Slot `n` of the gathered buffer is `G n`. -/
theorem gather_emb (G : Fin 4 → Vec F S1x4096x256 .bf16) (n : Fin 4) (h : SlotIn n.val) (j : S1x4096x256.Idx) :
    gather G ((slotRect n.val h).emb j) = G n j := by
  unfold gather
  obtain ⟨h1, h2⟩ := slot_emb n h j
  rw [h2]
  exact congrArg (fun x => G x j) h1

theorem read_kg (G : Fin 4 → Vec F S1x4096x256 .bf16) (n : Fin 4) (h : SlotIn n.val) :
    (kgM.view).readAt (Elt F) (slotRect n.val h).toLoadRect (gather G) = G n := funext (gather_emb G n h)

theorem read_vg (G : Fin 4 → Vec F S1x4096x256 .bf16) (n : Fin 4) (h : SlotIn n.val) :
    (vgM.view).readAt (Elt F) (slotRect n.val h).toLoadRect (gather G) = G n := funext (gather_emb G n h)

theorem setOn_kg (n : Fin 4) (h : SlotIn n.val) : (kgM.view).setOn (slotRect n.val h).toLoadRect.set ⊆ slotSet n := by
  rw [← slotRect_set n h]
  intro i hi
  obtain ⟨x, hx, rfl⟩ := Finset.mem_map.mp hi
  exact hx

theorem setOn_vg (n : Fin 4) (h : SlotIn n.val) : (vgM.view).setOn (slotRect n.val h).toLoadRect.set ⊆ slotSet n := by
  rw [← slotRect_set n h]
  intro i hi
  obtain ⟨x, hx, rfl⟩ := Finset.mem_map.mp hi
  exact hx

/-! ## Reading and writing a block of rows -/

section Blocks
variable (k : Fin 8)

theorem read_qs {off : Fin 2 → ℕ} (ho : off = ![512 * k.val, 0]) (inb) (f : S4096x256.Idx → Elt F .bf16) :
    qsM.view.readAt (Elt F) (Rect.unit (s := S4096x256) off S512x256.size inb).toLoadRect f = rowBlk f k :=
  funext fun j => congrArg f (emb_rows k off ho inb j)

theorem read_l {off : Fin 2 → ℕ} (ho : off = ![512 * k.val, 0]) (inb) (f : S4096x1.Idx → Elt F .f32) :
    lM.view.readAt (Elt F) (Rect.unit (s := S4096x1) off S512x1.size inb).toLoadRect f = rowBlk f k :=
  funext fun j => congrArg f (emb_rows k off ho inb j)

theorem read_acc {off : Fin 2 → ℕ} (ho : off = ![512 * k.val, 0]) (inb) (f : S4096x256.Idx → Elt F .f32) :
    accM.view.readAt (Elt F) (Rect.unit (s := S4096x256) off S512x256.size inb).toLoadRect f = rowBlk f k :=
  funext fun j => congrArg f (emb_rows k off ho inb j)

theorem write_l {off : Fin 2 → ℕ} (ho : off = ![512 * k.val, 0]) (inb) (new old : S4096x1.Idx → Elt F .f32)
    (w : S512x1.Idx → Elt F .f32) (hw : w = rowBlk new k) :
    (lM.access (Rect.unit (s := S4096x1) off S512x1.size inb)).write (Elt F) (partly new old k.val) w Finset.univ
      = partly new old (k.val + 1) := by
  subst hw
  funext i
  by_cases hi : i ∈ (Rect.unit (s := S4096x1) off S512x1.size inb).set
  · obtain ⟨j, -, rfl⟩ := Finset.mem_map.mp ((Rect.map_emb_univ _).symm ▸ hi)
    refine ((View.write_emb_of_mem (v := lM.access (Rect.unit (s := S4096x1) off S512x1.size inb)) _ _ (Finset.mem_univ j))).trans ?_
    refine (partly_rowIdx new old k j).symm.trans ?_
    exact congrArg _ (emb_rows k off ho inb j).symm
  · refine (View.write_of_not_mem (v := lM.access (Rect.unit (s := S4096x1) off S512x1.size inb)) _ _ _ ?_).trans
      (partly_off new old k i (not_mem_rows k off ho inb i hi)).symm
    show i ∉ ((View.whole cc0_scratch3).slice (Rect.unit (s := S4096x1) off S512x1.size inb)).set
    rw [View.set_slice_whole]; exact hi

theorem write_acc {off : Fin 2 → ℕ} (ho : off = ![512 * k.val, 0]) (inb) (new old : S4096x256.Idx → Elt F .f32)
    (w : S512x256.Idx → Elt F .f32) (hw : w = rowBlk new k) :
    (accM.access (Rect.unit (s := S4096x256) off S512x256.size inb)).write (Elt F) (partly new old k.val) w Finset.univ
      = partly new old (k.val + 1) := by
  subst hw
  funext i
  by_cases hi : i ∈ (Rect.unit (s := S4096x256) off S512x256.size inb).set
  · obtain ⟨j, -, rfl⟩ := Finset.mem_map.mp ((Rect.map_emb_univ _).symm ▸ hi)
    refine ((View.write_emb_of_mem (v := accM.access (Rect.unit (s := S4096x256) off S512x256.size inb)) _ _ (Finset.mem_univ j))).trans ?_
    refine (partly_rowIdx new old k j).symm.trans ?_
    exact congrArg _ (emb_rows k off ho inb j).symm
  · refine (View.write_of_not_mem (v := accM.access (Rect.unit (s := S4096x256) off S512x256.size inb)) _ _ _ ?_).trans
      (partly_off new old k i (not_mem_rows k off ho inb i hi)).symm
    show i ∉ ((View.whole cc0_scratch4).slice (Rect.unit (s := S4096x256) off S512x256.size inb)).set
    rw [View.set_slice_whole]; exact hi

theorem write_out {off : Fin 2 → ℕ} (ho : off = ![512 * k.val, 0]) (inb) (new old : S4096x256.Idx → Elt F .f32)
    (w : S512x256.Idx → Elt F .f32) (hw : w = rowBlk new k) :
    (outM.access (Rect.unit (s := S4096x256) off S512x256.size inb)).write (Elt F) (partly new old k.val) w Finset.univ
      = partly new old (k.val + 1) := write_acc k ho inb new old w hw

end Blocks

/-! ## The trips -/

section Trips

variable (c : Dev nD) (k : Fin 8) (n : Fin 4) (hn : SlotIn n.val)
variable (o1 o2 : Fin 2 → ℕ) (i1 : ∀ a, o1 a + S512x256.size a ≤ S4096x256.size a) (i2 : ∀ a, o2 a + S512x1.size a ≤ S4096x1.size a)

/-- What a trip finds and leaves: the scaled queries, one slot of the keys and of the values, the row sums, the sums
    of products. -/
def tripState (n : Fin 4) (p p' : PosShare TreeShare) (fq : S4096x256.Idx → Elt F .bf16) (G H : Fin 4 → Vec F S1x4096x256 .bf16)
    (l : S4096x1.Idx → Elt F .f32) (a : S4096x256.Idx → Elt F .f32) : sProp 𝕄 :=
  iprop((((c : Thread nD τ).loc cc0_scratch0) ↦{fullShare} (fq : Buf (Elt F) ((c : Thread nD τ).loc cc0_scratch0)))
    ∗ (((c : Thread nD τ).loc cc0_scratch1) ↦[slotSet n]{p} (gather G : Buf (Elt F) ((c : Thread nD τ).loc cc0_scratch1)))
    ∗ (((c : Thread nD τ).loc cc0_scratch2) ↦[slotSet n]{p'} (gather H : Buf (Elt F) ((c : Thread nD τ).loc cc0_scratch2)))
    ∗ (((c : Thread nD τ).loc cc0_scratch3) ↦{fullShare} (l : Buf (Elt F) ((c : Thread nD τ).loc cc0_scratch3)))
    ∗ (((c : Thread nD τ).loc cc0_scratch4) ↦{fullShare} (a : Buf (Elt F) ((c : Thread nD τ).loc cc0_scratch4))))

/-- A trip that adds to the two running arrays (the second and the third loop's). -/
def addTrip (pl : Vec F S512x256 .bf16 → Vec F S1x4096x256 .bf16 → Vec F S512x1 .f32 → FVec F S512x1 .f32)
    (pa : Vec F S512x256 .bf16 → Vec F S1x4096x256 .bf16 → Vec F S1x4096x256 .bf16 → Vec F S512x256 .f32 → FVec F S512x256 .f32) :
    Prog (TpuEff nD τ sig (Elt F) Λ₀ .tc) Unit := do
  let q : Vec F S512x256 .bf16 ← Prog.lift (.load qsM (Rect.unit (s := S4096x256) o1 S512x256.size i1).toLoadRect (View.loadsAt_vmem h_S512x256))
  let kk : Vec F S1x4096x256 .bf16 ← Prog.lift (.load kgM (slotRect n.val hn).toLoadRect (View.loadsAt_vmem h_S1x4096x256))
  let vv : Vec F S1x4096x256 .bf16 ← Prog.lift (.load vgM (slotRect n.val hn).toLoadRect (View.loadsAt_vmem h_S1x4096x256))
  let l : Vec F S512x1 .f32 ← Prog.lift (.load lM (Rect.unit (s := S4096x1) o2 S512x1.size i2).toLoadRect (View.loadsAt_vmem h_S512x1))
  let _ : Vec F S512x1 .f32 ← Prog.lift (.load lM (Rect.unit (s := S4096x1) o2 S512x1.size i2).toLoadRect (View.loadsAt_vmem h_S512x1))
  Prog.lift (.store lM (Rect.unit (s := S4096x1) o2 S512x1.size i2) (pl q kk l) Finset.univ (View.stores_vmem_bits_univ h_S512x1 rfl) (.inl rfl))
  let a : Vec F S512x256 .f32 ← Prog.lift (.load accM (Rect.unit (s := S4096x256) o1 S512x256.size i1).toLoadRect (View.loadsAt_vmem h_S512x256))
  let _ : Vec F S512x256 .f32 ← Prog.lift (.load accM (Rect.unit (s := S4096x256) o1 S512x256.size i1).toLoadRect (View.loadsAt_vmem h_S512x256))
  Prog.lift (.store accM (Rect.unit (s := S4096x256) o1 S512x256.size i1) (pa q kk vv a) Finset.univ (View.stores_vmem_bits_univ h_S512x256 rfl) (.inl rfl))
  pure ⟨⟩

theorem wp_addTrip (h1 : o1 = ![512 * k.val, 0]) (h2 : o2 = ![512 * k.val, 0]) (pl) (pa) (p p' : PosShare TreeShare)
    (fq : S4096x256.Idx → Elt F .bf16) (G H : Fin 4 → Vec F S1x4096x256 .bf16)
    (l l' : S4096x1.Idx → Elt F .f32) (a a' : S4096x256.Idx → Elt F .f32)
    (hl : pl (rowBlk fq k) (G n) (rowBlk l k) = rowBlk l' k) (ha : pa (rowBlk fq k) (G n) (H n) (rowBlk a k) = rowBlk a' k) :
    tripState c n p p' fq G H (partly l' l k.val) (partly a' a k.val)
      ⊢ wp frame (wpE (defs₀ (F := F)) 𝒱r (c : Thread nD τ) none) Set.univ (addTrip n hn o1 o2 i1 i2 pl pa)
          (fun _ => tripState c n p p' fq G H (partly l' l (k.val + 1)) (partly a' a (k.val + 1))) := by
  unfold addTrip tripState
  simp only [Prog.lift, Prog.bind_op, Prog.bind_ret, Prog.pure_eq_ret]
  iintro ⟨Hq, Hk, Hv, Hl, Ha⟩
  iapply (wp_load 𝒱r (c : Thread nD τ) none Set.univ (m := qsM) (Finset.subset_univ _)) $$ Hq; iintro Hq
  rw [read_qs k h1]
  iapply (wp_load 𝒱r (c : Thread nD τ) none Set.univ (m := kgM) (setOn_kg n hn)) $$ Hk; iintro Hk
  rw [read_kg]
  iapply (wp_load 𝒱r (c : Thread nD τ) none Set.univ (m := vgM) (setOn_vg n hn)) $$ Hv; iintro Hv
  rw [read_vg]
  iapply (wp_load 𝒱r (c : Thread nD τ) none Set.univ (m := lM) (Finset.subset_univ _)) $$ Hl; iintro Hl
  rw [read_l k h2, rowBlk_partly]
  iapply (wp_load 𝒱r (c : Thread nD τ) none Set.univ (m := lM) (Finset.subset_univ _)) $$ Hl; iintro Hl
  iapply (wp_store 𝒱r (c : Thread nD τ) none Set.univ (m := lM) (r := Rect.unit (s := S4096x1) o2 S512x1.size i2) (Mk := Finset.univ) (Finset.subset_univ _)) $$ Hl; iintro Hl
  rw [write_l k h2 i2 l' l _ hl]
  iapply (wp_load 𝒱r (c : Thread nD τ) none Set.univ (m := accM) (Finset.subset_univ _)) $$ Ha; iintro Ha
  rw [read_acc k h1, rowBlk_partly]
  iapply (wp_load 𝒱r (c : Thread nD τ) none Set.univ (m := accM) (Finset.subset_univ _)) $$ Ha; iintro Ha
  iapply (wp_store 𝒱r (c : Thread nD τ) none Set.univ (m := accM) (r := Rect.unit (s := S4096x256) o1 S512x256.size i1) (Mk := Finset.univ) (Finset.subset_univ _)) $$ Ha; iintro Ha
  rw [write_acc k h1 i1 a' a _ ha, wp_ret]; imodintro
  isplitl [Hq]; · iexact Hq
  isplitl [Hk]; · iexact Hk
  isplitl [Hv]; · iexact Hv
  isplitl [Hl] <;> iassumption

/-- A trip that stores the two running arrays for the first time (the first loop's). -/
def firstTrip : Prog (TpuEff nD τ sig (Elt F) Λ₀ .tc) Unit := do
  let q : Vec F S512x256 .bf16 ← Prog.lift (.load qsM (Rect.unit (s := S4096x256) o1 S512x256.size i1).toLoadRect (View.loadsAt_vmem h_S512x256))
  let kk : Vec F S1x4096x256 .bf16 ← Prog.lift (.load kgM (slotRect n.val hn).toLoadRect (View.loadsAt_vmem h_S1x4096x256))
  let vv : Vec F S1x4096x256 .bf16 ← Prog.lift (.load vgM (slotRect n.val hn).toLoadRect (View.loadsAt_vmem h_S1x4096x256))
  let _ : Vec F S512x1 .f32 ← Prog.lift (.load lM (Rect.unit (s := S4096x1) o2 S512x1.size i2).toLoadRect (View.loadsAt_vmem h_S512x1))
  Prog.lift (.store lM (Rect.unit (s := S4096x1) o2 S512x1.size i2) (k0_pay6 q kk) Finset.univ (View.stores_vmem_bits_univ h_S512x1 rfl) (.inl rfl))
  let _ : Vec F S512x256 .f32 ← Prog.lift (.load accM (Rect.unit (s := S4096x256) o1 S512x256.size i1).toLoadRect (View.loadsAt_vmem h_S512x256))
  Prog.lift (.store accM (Rect.unit (s := S4096x256) o1 S512x256.size i1) (k0_pay7 q kk vv) Finset.univ (View.stores_vmem_bits_univ h_S512x256 rfl) (.inl rfl))
  pure ⟨⟩

theorem wp_firstTrip (h1 : o1 = ![512 * k.val, 0]) (h2 : o2 = ![512 * k.val, 0]) (p p' : PosShare TreeShare)
    (fq : S4096x256.Idx → Elt F .bf16) (G H : Fin 4 → Vec F S1x4096x256 .bf16)
    (l l' : S4096x1.Idx → Elt F .f32) (a a' : S4096x256.Idx → Elt F .f32)
    (hl : k0_pay6 (rowBlk fq k) (G n) = rowBlk l' k) (ha : k0_pay7 (rowBlk fq k) (G n) (H n) = rowBlk a' k) :
    tripState c n p p' fq G H (partly l' l k.val) (partly a' a k.val)
      ⊢ wp frame (wpE (defs₀ (F := F)) 𝒱r (c : Thread nD τ) none) Set.univ (firstTrip n hn o1 o2 i1 i2)
          (fun _ => tripState c n p p' fq G H (partly l' l (k.val + 1)) (partly a' a (k.val + 1))) := by
  unfold firstTrip tripState
  simp only [Prog.lift, Prog.bind_op, Prog.bind_ret, Prog.pure_eq_ret]
  iintro ⟨Hq, Hk, Hv, Hl, Ha⟩
  iapply (wp_load 𝒱r (c : Thread nD τ) none Set.univ (m := qsM) (Finset.subset_univ _)) $$ Hq; iintro Hq
  rw [read_qs k h1]
  iapply (wp_load 𝒱r (c : Thread nD τ) none Set.univ (m := kgM) (setOn_kg n hn)) $$ Hk; iintro Hk
  rw [read_kg]
  iapply (wp_load 𝒱r (c : Thread nD τ) none Set.univ (m := vgM) (setOn_vg n hn)) $$ Hv; iintro Hv
  rw [read_vg]
  iapply (wp_load 𝒱r (c : Thread nD τ) none Set.univ (m := lM) (Finset.subset_univ _)) $$ Hl; iintro Hl
  iapply (wp_store 𝒱r (c : Thread nD τ) none Set.univ (m := lM) (r := Rect.unit (s := S4096x1) o2 S512x1.size i2) (Mk := Finset.univ) (Finset.subset_univ _)) $$ Hl; iintro Hl
  rw [write_l k h2 i2 l' l _ hl]
  iapply (wp_load 𝒱r (c : Thread nD τ) none Set.univ (m := accM) (Finset.subset_univ _)) $$ Ha; iintro Ha
  iapply (wp_store 𝒱r (c : Thread nD τ) none Set.univ (m := accM) (r := Rect.unit (s := S4096x256) o1 S512x256.size i1) (Mk := Finset.univ) (Finset.subset_univ _)) $$ Ha; iintro Ha
  rw [write_acc k h1 i1 a' a _ ha, wp_ret]; imodintro
  isplitl [Hq]; · iexact Hq
  isplitl [Hk]; · iexact Hk
  isplitl [Hv]; · iexact Hv
  isplitl [Hl] <;> iassumption

/-- A trip that adds the last block and divides (the fourth loop's). -/
def lastTrip : Prog (TpuEff nD τ sig (Elt F) Λ₀ .tc) Unit := do
  let q : Vec F S512x256 .bf16 ← Prog.lift (.load qsM (Rect.unit (s := S4096x256) o1 S512x256.size i1).toLoadRect (View.loadsAt_vmem h_S512x256))
  let kk : Vec F S1x4096x256 .bf16 ← Prog.lift (.load kgM (slotRect n.val hn).toLoadRect (View.loadsAt_vmem h_S1x4096x256))
  let vv : Vec F S1x4096x256 .bf16 ← Prog.lift (.load vgM (slotRect n.val hn).toLoadRect (View.loadsAt_vmem h_S1x4096x256))
  let a : Vec F S512x256 .f32 ← Prog.lift (.load accM (Rect.unit (s := S4096x256) o1 S512x256.size i1).toLoadRect (View.loadsAt_vmem h_S512x256))
  let l : Vec F S512x1 .f32 ← Prog.lift (.load lM (Rect.unit (s := S4096x1) o2 S512x1.size i2).toLoadRect (View.loadsAt_vmem h_S512x1))
  let _ : Vec F S512x256 .f32 ← Prog.lift (.load outM (Rect.unit (s := S4096x256) o1 S512x256.size i1).toLoadRect (View.loadsAt_vmem h_S512x256))
  Prog.lift (.store outM (Rect.unit (s := S4096x256) o1 S512x256.size i1) (k0_pay1 q kk vv a l) Finset.univ (View.stores_vmem_bits_univ h_S512x256 rfl) (.inl rfl))
  pure ⟨⟩

/-- The result's staging buffer. -/
def outPts (o : S4096x256.Idx → Elt F .f32) : sProp 𝕄 :=
  iprop(((c : Thread nD τ).loc cc0_stg3_0) ↦{fullShare} (o : Buf (Elt F) ((c : Thread nD τ).loc cc0_stg3_0)))

theorem wp_lastTrip (h1 : o1 = ![512 * k.val, 0]) (h2 : o2 = ![512 * k.val, 0]) (p p' : PosShare TreeShare)
    (fq : S4096x256.Idx → Elt F .bf16) (G H : Fin 4 → Vec F S1x4096x256 .bf16)
    (l : S4096x1.Idx → Elt F .f32) (a : S4096x256.Idx → Elt F .f32) (o o' : S4096x256.Idx → Elt F .f32)
    (ho : k0_pay1 (rowBlk fq k) (G n) (H n) (rowBlk a k) (rowBlk l k) = rowBlk o' k) :
    iprop(tripState c n p p' fq G H l a ∗ outPts c (partly o' o k.val))
      ⊢ wp frame (wpE (defs₀ (F := F)) 𝒱r (c : Thread nD τ) none) Set.univ (lastTrip n hn o1 o2 i1 i2)
          (fun _ => iprop(tripState c n p p' fq G H l a ∗ outPts c (partly o' o (k.val + 1)))) := by
  unfold lastTrip tripState outPts
  simp only [Prog.lift, Prog.bind_op, Prog.bind_ret, Prog.pure_eq_ret]
  iintro ⟨⟨Hq, Hk, Hv, Hl, Ha⟩, Ho⟩
  iapply (wp_load 𝒱r (c : Thread nD τ) none Set.univ (m := qsM) (Finset.subset_univ _)) $$ Hq; iintro Hq
  rw [read_qs k h1]
  iapply (wp_load 𝒱r (c : Thread nD τ) none Set.univ (m := kgM) (setOn_kg n hn)) $$ Hk; iintro Hk
  rw [read_kg]
  iapply (wp_load 𝒱r (c : Thread nD τ) none Set.univ (m := vgM) (setOn_vg n hn)) $$ Hv; iintro Hv
  rw [read_vg]
  iapply (wp_load 𝒱r (c : Thread nD τ) none Set.univ (m := accM) (Finset.subset_univ _)) $$ Ha; iintro Ha
  rw [read_acc k h1]
  iapply (wp_load 𝒱r (c : Thread nD τ) none Set.univ (m := lM) (Finset.subset_univ _)) $$ Hl; iintro Hl
  rw [read_l k h2]
  iapply (wp_load 𝒱r (c : Thread nD τ) none Set.univ (m := outM) (Finset.subset_univ _)) $$ Ho; iintro Ho
  iapply (wp_store 𝒱r (c : Thread nD τ) none Set.univ (m := outM) (r := Rect.unit (s := S4096x256) o1 S512x256.size i1) (Mk := Finset.univ) (Finset.subset_univ _)) $$ Ho; iintro Ho
  rw [write_out k h1 i1 o' o _ ho, wp_ret]; imodintro
  isplitl [Hq Hk Hv Hl Ha]
  · isplitl [Hq]; · iexact Hq
    isplitl [Hk]; · iexact Hk
    isplitl [Hv]; · iexact Hv
    isplitl [Hl] <;> iassumption
  iexact Ho

end Trips

end Cert.KernelIdeal.Ring

end
-- ==== Proof.Ideal.Values.lean ====
/-
# What each array holds

Device `c` sees the blocks of keys and values in the order `c`, `c - 1`, `c - 2`, `c - 3`: slot `h` of its gathered
buffers holds the block of the device `h` places back. From these and its own scaled queries follow the row sums and
the sums of products after each loop, and the result. All are stated over the staged queries, keys and values of
every device, for any float values.
-/
module

public import proofs.«01_k».proof.Proof.Ideal.Trips

@[expose] public section

noncomputable section

namespace Cert.KernelIdeal.Ring

open Cert.KernelIdeal Cert.KernelIdeal.Gen

open Idealize.ShloMosaic Idealize.ShloMosaic.TcCoe
open Idealize.SL.Sem

variable {F : FTy → Type} [FloatOps F]

/-! ## The ring -/

set_option backward.proofsInPublic true in
/-- The device after `c`, the one before it, and the one `h` places before it. -/
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def back (h : Fin 4) (c : Dev nD) : Dev nD := ⟨(c.val + 4 - h.val) % 4, Nat.mod_lt _ (by decide)⟩

theorem prv_nxt (c : Dev nD) : prv (nxt c) = c := by revert c; decide
theorem nxt_prv (c : Dev nD) : nxt (prv c) = c := by revert c; decide
theorem back_zero (c : Dev nD) : back 0 c = c := by revert c; decide
/-- The block one slot further on the next device is the same device's. -/
theorem back_succ (h : Fin 3) (c : Dev nD) : back h.succ (nxt c) = back h.castSucc c := by revert h c; decide

def ring : Dev nD ≃ Dev nD := ⟨nxt, prv, prv_nxt, nxt_prv⟩

/-! ## The arrays -/

section Arrays
variable (qX kX vX : Dev nD → Vec F S4096x256 .bf16) (c : Dev nD)

def qsAt : Vec F S4096x256 .bf16 := k0_pay4 (qX c)
def keysAt : Fin 4 → Vec F S1x4096x256 .bf16 := fun h => k0_pay2 (kX (back h c))
def valsAt : Fin 4 → Vec F S1x4096x256 .bf16 := fun h => k0_pay3 (vX (back h c))

theorem keysAt_nxt (h : Fin 3) : keysAt kX (nxt c) h.succ = keysAt kX c h.castSucc := by
  unfold keysAt; rw [back_succ]
theorem valsAt_nxt (h : Fin 3) : valsAt vX (nxt c) h.succ = valsAt vX c h.castSucc := by
  unfold valsAt; rw [back_succ]
theorem keysAt_zero : keysAt kX c 0 = k0_pay2 (kX c) := by unfold keysAt; rw [back_zero]
theorem valsAt_zero : valsAt vX c 0 = k0_pay3 (vX c) := by unfold valsAt; rw [back_zero]

/-- The row sums and the sums of products after the first loop, -/
def l0 : S4096x1.Idx → Elt F .f32 := stack fun t => k0_pay6 (rowBlk (qsAt qX c) t) (keysAt kX c 0)
def a0 : S4096x256.Idx → Elt F .f32 := stack fun t => k0_pay7 (rowBlk (qsAt qX c) t) (keysAt kX c 0) (valsAt vX c 0)
/-- after the second, -/
def l1 : S4096x1.Idx → Elt F .f32 := stack fun t => k0_pay9 (rowBlk (qsAt qX c) t) (keysAt kX c 1) (rowBlk (l0 qX kX c) t)
def a1 : S4096x256.Idx → Elt F .f32 :=
  stack fun t => k0_pay10 (rowBlk (qsAt qX c) t) (keysAt kX c 1) (valsAt vX c 1) (rowBlk (a0 qX kX vX c) t)
/-- after the third, -/
def l2 : S4096x1.Idx → Elt F .f32 := stack fun t => k0_pay12 (rowBlk (qsAt qX c) t) (keysAt kX c 2) (rowBlk (l1 qX kX c) t)
def a2 : S4096x256.Idx → Elt F .f32 :=
  stack fun t => k0_pay13 (rowBlk (qsAt qX c) t) (keysAt kX c 2) (valsAt vX c 2) (rowBlk (a1 qX kX vX c) t)
/-- and the result, after the fourth. -/
def resAt : S4096x256.Idx → Elt F .f32 :=
  stack fun t => k0_pay1 (rowBlk (qsAt qX c) t) (keysAt kX c 3) (valsAt vX c 3) (rowBlk (a2 qX kX vX c) t) (rowBlk (l2 qX kX c) t)

/-- Their blocks of rows. -/
theorem rows_l0 (t : Fin 8) : k0_pay6 (rowBlk (qsAt qX c) t) (keysAt kX c 0) = rowBlk (l0 qX kX c) t :=
  (rowBlk_stack (n := 1) (fun t => k0_pay6 (rowBlk (qsAt qX c) t) (keysAt kX c 0)) t).symm
theorem rows_a0 (t : Fin 8) : k0_pay7 (rowBlk (qsAt qX c) t) (keysAt kX c 0) (valsAt vX c 0) = rowBlk (a0 qX kX vX c) t :=
  (rowBlk_stack (n := 256) (fun t => k0_pay7 (rowBlk (qsAt qX c) t) (keysAt kX c 0) (valsAt vX c 0)) t).symm
theorem rows_l1 (t : Fin 8) : k0_pay9 (rowBlk (qsAt qX c) t) (keysAt kX c 1) (rowBlk (l0 qX kX c) t) = rowBlk (l1 qX kX c) t :=
  (rowBlk_stack (n := 1) (fun t => k0_pay9 (rowBlk (qsAt qX c) t) (keysAt kX c 1) (rowBlk (l0 qX kX c) t)) t).symm
theorem rows_a1 (t : Fin 8) : k0_pay10 (rowBlk (qsAt qX c) t) (keysAt kX c 1) (valsAt vX c 1) (rowBlk (a0 qX kX vX c) t) = rowBlk (a1 qX kX vX c) t :=
  (rowBlk_stack (n := 256) (fun t => k0_pay10 (rowBlk (qsAt qX c) t) (keysAt kX c 1) (valsAt vX c 1) (rowBlk (a0 qX kX vX c) t)) t).symm
theorem rows_l2 (t : Fin 8) : k0_pay12 (rowBlk (qsAt qX c) t) (keysAt kX c 2) (rowBlk (l1 qX kX c) t) = rowBlk (l2 qX kX c) t :=
  (rowBlk_stack (n := 1) (fun t => k0_pay12 (rowBlk (qsAt qX c) t) (keysAt kX c 2) (rowBlk (l1 qX kX c) t)) t).symm
theorem rows_a2 (t : Fin 8) : k0_pay13 (rowBlk (qsAt qX c) t) (keysAt kX c 2) (valsAt vX c 2) (rowBlk (a1 qX kX vX c) t) = rowBlk (a2 qX kX vX c) t :=
  (rowBlk_stack (n := 256) (fun t => k0_pay13 (rowBlk (qsAt qX c) t) (keysAt kX c 2) (valsAt vX c 2) (rowBlk (a1 qX kX vX c) t)) t).symm
theorem rows_res (t : Fin 8) : k0_pay1 (rowBlk (qsAt qX c) t) (keysAt kX c 3) (valsAt vX c 3) (rowBlk (a2 qX kX vX c) t) (rowBlk (l2 qX kX c) t)
    = rowBlk (resAt qX kX vX c) t :=
  (rowBlk_stack (n := 256) (fun t => k0_pay1 (rowBlk (qsAt qX c) t) (keysAt kX c 3) (valsAt vX c 3) (rowBlk (a2 qX kX vX c) t) (rowBlk (l2 qX kX c) t)) t).symm

end Arrays

end Cert.KernelIdeal.Ring

end
-- ==== Proof.Ideal.Protocol.lean ====
/-
# The ring's protocol

Each device has a barrier cell and twelve cells of its copies: for the keys and for the values, one cell for the
sending and one for the receiving end of each of the three hops. One round each.

* The barrier cell takes one unit from either neighbour. The next device's unit brings the permission to write its
  slots 1, 2 and 3; the previous device's brings nothing.
* The sending cell of hop `h` gives the left half share of slot `h` back, which the copy read.
* The receiving cell of hop `h` gives slot `h + 1`, holding the block of the device `h + 1` places back.

A device owes its next device the six receiving credits and both neighbours a barrier unit. Receiving cells of hop
`h` lie at level `2 + h`, the barrier at 1, everything else at 0.
-/
module

public import proofs.«01_k».proof.Proof.Ideal.Values
public import Idealize.ShloMosaic.Lib.Pipeline.Launch

@[expose] public section

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

abbrev EP : Emb (UR sig nD τ) (MT nD τ sig Unit (Elt F) ℕ Ghost ℕ) := embL
abbrev ER : Emb RingRounds (MT nD τ sig Unit (Elt F) ℕ Ghost ℕ) := embR

variable (kX vX : Dev nD → Vec F S4096x256 .bf16)

/-! ## The cells -/

/-- A copy's cell: which of the four ends (keys sent, keys received, values sent, values received), and the hop. -/
abbrev Xfer : Type := Fin 4 × Fin 3

abbrev barS : Sem sig := (SemArray.scalar (sig.barrier 0 rfl) : Sems sig S_).sem
set_option backward.proofsInPublic true in
/-- The DMA semaphore of a copy's end. -/
def xsem (x : Xfer) : DmaSem sig := ⟨4 + 3 * x.1.val + x.2.val, by
  have h1 := x.1.isLt; have h2 := x.2.isLt
  show _ < 16
  omega⟩
set_option backward.proofsInPublic true in
/-- Which end and hop a DMA semaphore belongs to. -/
def endOf (q : DmaSem sig) : Xfer := (⟨(q.val - 4) / 3 % 4, Nat.mod_lt _ (by decide)⟩, ⟨(q.val - 4) % 3, Nat.mod_lt _ (by decide)⟩)

theorem endOf_xsem (x : Xfer) : endOf (xsem x) = x := by revert x; decide
theorem xsem_inj {x y : Xfer} (h : xsem x = xsem y) : x = y := by rw [← endOf_xsem x, h, endOf_xsem]

abbrev barCell (c : Dev nD) : GSem nD τ sig := ((c : Thread nD τ), .reg barS)
abbrev xCell (c : Dev nD) (x : Xfer) : GSem nD τ sig := ((c : Thread nD τ), .dma (xsem x))

/-! ## The slots a copy reads and writes -/

/-- Slot `n` of device `c`'s gathered keys, and of its gathered values, at a share. -/
def kgPts (c : Dev nD) (n : Fin 4) (q : PosShare TreeShare) (f : S4x4096x256.Idx → Elt F .bf16) : sProp 𝕄 :=
  ((c : Thread nD τ).loc cc0_scratch1) ↦[slotSet n]{q} (f : Buf (Elt F) ((c : Thread nD τ).loc cc0_scratch1))
def vgPts (c : Dev nD) (n : Fin 4) (q : PosShare TreeShare) (f : S4x4096x256.Idx → Elt F .bf16) : sProp 𝕄 :=
  ((c : Thread nD τ).loc cc0_scratch2) ↦[slotSet n]{q} (f : Buf (Elt F) ((c : Thread nD τ).loc cc0_scratch2))

instance kgPts_storable (c n q f) : BI.Storable (upEmb : UEmb _ 𝕄) (kgPts (F := F) c n q f) := by unfold kgPts; infer_instance
instance vgPts_storable (c n q f) : BI.Storable (upEmb : UEmb _ 𝕄) (vgPts (F := F) c n q f) := by unfold vgPts; infer_instance

abbrev slotM (M : Memref sig .tc .vmem S4x4096x256 .bf16) (n : ℕ) (h : SlotIn n) : Memref sig .tc .vmem S4096x256 .bf16 :=
  (M.slice (slotRect n h) (fun _ => rfl)).squeeze S4096x256 squeezes_S1x4096x256_S4096x256

/-- A copy's credit: that of one slot. -/
abbrev N : ℕ := (slotM kgM 0 inb_S4x4096x256_S1x4096x256_0_0_0).view.dmaCredit
theorem N_pos : 0 < N := View.dmaCredit_pos _ (by decide)

theorem slotM_kg_set (n : Fin 4) (h : SlotIn n.val) : (slotM kgM n.val h).view.set = slotSet n := by
  rw [← slotRect_set n h]
  exact (View.set_reshape _ _).trans (View.set_slice_whole cc0_scratch1 (slotRect n.val h))
theorem slotM_vg_set (n : Fin 4) (h : SlotIn n.val) : (slotM vgM n.val h).view.set = slotSet n := by
  rw [← slotRect_set n h]
  exact (View.set_reshape _ _).trans (View.set_slice_whole cc0_scratch2 (slotRect n.val h))

theorem kgPts_slotM (c : Dev nD) (n : Fin 4) (h : SlotIn n.val) (q : PosShare TreeShare) (f) :
    ((slotM kgM n.val h).view.loc (c : Thread nD τ) ↦[(slotM kgM n.val h).view.set]{q} f : sProp 𝕄) = kgPts c n q f := by
  rw [slotM_kg_set]; rfl
theorem vgPts_slotM (c : Dev nD) (n : Fin 4) (h : SlotIn n.val) (q : PosShare TreeShare) (f) :
    ((slotM vgM n.val h).view.loc (c : Thread nD τ) ↦[(slotM vgM n.val h).view.set]{q} f : sProp 𝕄) = vgPts c n q f := by
  rw [slotM_vg_set]; rfl

/-- Copying slot `n` of one gathered buffer into slot `n'` of another that should hold the same there. -/
theorem kg_copied (G G' : Fin 4 → Vec F S1x4096x256 .bf16) (n n' : Fin 4) (h : SlotIn n.val) (h' : SlotIn n'.val)
    (hG : G' n' = G n) (fd : S4x4096x256.Idx → Elt F .bf16) :
    ∀ i ∈ slotSet n', (slotM kgM n'.val h').view.write (Elt F) fd ((slotM kgM n.val h).view.read (Elt F) (gather G)) Finset.univ i = gather G' i := by
  intro i hi
  rw [← slotM_kg_set n' h'] at hi
  obtain ⟨j, -, rfl⟩ := Finset.mem_map.mp hi
  refine (View.write_emb_of_mem (v := (slotM kgM n'.val h').view) _ _ (Finset.mem_univ j)).trans ?_
  refine (gather_emb G n h _).trans (Eq.trans ?_ (gather_emb G' n' h' _).symm)
  rw [hG]
theorem vg_copied (G G' : Fin 4 → Vec F S1x4096x256 .bf16) (n n' : Fin 4) (h : SlotIn n.val) (h' : SlotIn n'.val)
    (hG : G' n' = G n) (fd : S4x4096x256.Idx → Elt F .bf16) :
    ∀ i ∈ slotSet n', (slotM vgM n'.val h').view.write (Elt F) fd ((slotM vgM n.val h).view.read (Elt F) (gather G)) Finset.univ i = gather G' i :=
  kg_copied G G' n n' h h' hG fd

/-! ## The schedule -/

/-- Permission to write slot `h + 1` of `c`'s gathered buffers. -/
def land (c : Dev nD) (h : Fin 3) : sProp 𝕄 := iprop((∃ f, kgPts c h.succ fullShare f) ∗ ∃ f, vgPts c h.succ fullShare f)
/-- What the next device's barrier unit brings. -/
def barPay (c : Dev nD) : sProp 𝕄 := iprop(land (nxt c) 0 ∗ land (nxt c) 1 ∗ land (nxt c) 2)
/-- What a copy's end gives. -/
def xPay (c : Dev nD) (x : Xfer) : sProp 𝕄 :=
  match x.1 with
  | 0 => kgPts c x.2.castSucc fullShare.left (gather (keysAt kX c))
  | 1 => kgPts c x.2.succ fullShare (gather (keysAt kX c))
  | 2 => vgPts c x.2.castSucc fullShare.left (gather (valsAt vX c))
  | 3 => vgPts c x.2.succ fullShare (gather (valsAt vX c))

instance land_storable (c h) : BI.Storable (upEmb : UEmb _ 𝕄) (land (F := F) c h) := by unfold land; infer_instance
instance barPay_storable (c) : BI.Storable (upEmb : UEmb _ 𝕄) (barPay (F := F) c) := by unfold barPay; infer_instance
instance xPay_storable (c x) : BI.Storable (upEmb : UEmb _ 𝕄) (xPay (F := F) kX vX c x) := by
  unfold xPay
  split <;> infer_instance

/-- The payload by the semaphore it is paid on. -/
def payAt (c : Dev nD) (s : SemLoc sig) (d : Bool) : sProp 𝕄 :=
  match s with
  | .reg _ => if d then barPay c else iprop(emp)
  | .dma q => xPay kX vX c (endOf q)

instance payAt_storable (c s d) : BI.Storable (upEmb : UEmb _ 𝕄) (payAt (F := F) kX vX c s d) := by
  unfold payAt
  (repeat' split) <;> infer_instance

/-- The ring's one round. -/
def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma _ => N
  payload g _ d := payAt kX vX g.1.1 g.2 d
  amount_pos g _ _ _ := by
    show 0 < (match g.2 with | .reg _ => 1 | .dma _ => N)
    split
    · exact Nat.one_pos
    · exact N_pos

instance ringRd_payload_storable (g : GSem nD τ sig) (r : ℕ) (d : Bool) :
    BI.Storable (upEmb : UEmb _ 𝕄) ((ringRd (F := F) kX vX).payload g r d) := payAt_storable kX vX g.1.1 g.2 d

section Sched
variable (c : Dev nD) (x : Xfer)

theorem duties_bar : (ringRd (F := F) kX vX).duties (barCell c) 0 = Finset.univ := by
  dsimp only [ringRd]; exact if_pos ⟨rfl, rfl⟩
theorem duties_x : (ringRd (F := F) kX vX).duties (xCell c x) 0 = {false} := by
  dsimp only [ringRd]; exact if_pos ⟨rfl, rfl⟩
theorem duties_later (g : GSem nD τ sig) : ∀ r, 1 ≤ r → (ringRd (F := F) kX vX).duties g r = ∅ :=
  fun r hr => by dsimp only [ringRd]; exact if_neg fun h => by omega
theorem amount_bar (d : Bool) : (ringRd (F := F) kX vX).amount (barCell c) 0 d = 1 := rfl
theorem amount_x (d : Bool) : (ringRd (F := F) kX vX).amount (xCell c x) 0 d = N := rfl
theorem expect_bar : (ringRd (F := F) kX vX).expect (barCell c) 0 = 2 := by
  unfold Schedule.expect Schedule.amountOf
  rw [duties_bar, Finset.sum_congr rfl fun d _ => amount_bar kX vX c d, Finset.sum_const, Finset.card_univ, Fintype.card_bool, smul_eq_mul]
theorem expect_x : (ringRd (F := F) kX vX).expect (xCell c x) 0 = N := by
  unfold Schedule.expect Schedule.amountOf; rw [duties_x, Finset.sum_singleton, amount_x]
theorem payload_bar_true : (ringRd (F := F) kX vX).payload (barCell c) 0 true = barPay c := by
  dsimp only [ringRd, payAt]; exact if_pos rfl
theorem payload_bar_false : (ringRd (F := F) kX vX).payload (barCell c) 0 false = iprop(emp) := by
  dsimp only [ringRd, payAt]; exact if_neg Bool.false_ne_true
theorem payload_x (d : Bool) : (ringRd (F := F) kX vX).payload (xCell c x) 0 d = xPay kX vX c x := by
  show xPay kX vX c (endOf (xsem x)) = _
  rw [endOf_xsem]

/-- The whole barrier round: the next device's payload. -/
theorem rest_bar : bigSep ((ringRd (F := F) kX vX).duties (barCell c) 0 \ ∅) (fun d => (ringRd (F := F) kX vX).payload (barCell c) 0 d)
    = iprop(emp ∗ barPay c) := by
  rw [Finset.sdiff_empty, duties_bar, bigSep_univ_eq_bigSepL [false, true] (by decide) (by decide), bigSepL_cons_cons, bigSepL_singleton,
    payload_bar_false, payload_bar_true]
  rfl
theorem rest_x : bigSep ((ringRd (F := F) kX vX).duties (xCell c x) 0 \ ∅) (fun d => (ringRd (F := F) kX vX).payload (xCell c x) 0 d)
    = xPay kX vX c x := by
  rw [Finset.sdiff_empty, duties_x, bigSep_singleton, payload_x]

end Sched

/-! ## What a device owes, and the levels -/

/-- The receiving cells of hop `h` on the next device. -/
def owedHop (c : Dev nD) (h : Fin 3) : CellTallies nD τ sig Unit :=
  tallyAt (xCell (nxt c) (3, h)) () N + tallyAt (xCell (nxt c) (1, h)) () N
/-- What device `c` owes before hop `h`; after the last, nothing. -/
def owedFrom (c : Dev nD) : ℕ → CellTallies nD τ sig Unit
  | 0 => 0 + owedHop c 2 + owedHop c 1 + owedHop c 0
  | 1 => 0 + owedHop c 2 + owedHop c 1
  | 2 => 0 + owedHop c 2
  | _ + 3 => 0
def O₁ (c : Dev nD) : CellTallies nD τ sig Unit := owedFrom c 0 + tallyAt (barCell (nxt c)) () 1
def O₀ (c : Dev nD) : CellTallies nD τ sig Unit := O₁ c + tallyAt (barCell (prv c)) () 1

theorem owedFrom_hop (c : Dev nD) (h : Fin 3) : owedFrom c h.val = owedFrom c (h.val + 1) + owedHop c h := by
  fin_cases h <;> rfl

def L (g : GSem nD τ sig) : Finset Unit := if g.1.2 = .tc then {()} else ∅
def lv (g : GSem nD τ sig) (_ : Unit) : ℕ :=
  match g.2 with
  | .reg _ => 1
  | .dma q => if 4 ≤ q.val ∧ ((endOf q).1 = 1 ∨ (endOf q).1 = 3) then 2 + (endOf q).2.val else 0

theorem L_of_ne (g : GSem nD τ sig) (h : g.1.2 ≠ .tc) : L g = ∅ := if_neg h
theorem L_tc (c : Dev nD) (sm : SemLoc sig) : L ((c : Thread nD τ), sm) = {()} := if_pos rfl

theorem lv_recvK (c : Dev nD) (h : Fin 3) : lv (xCell c (1, h)) () = 2 + h.val := by revert c h; decide
theorem lv_recvV (c : Dev nD) (h : Fin 3) : lv (xCell c (3, h)) () = 2 + h.val := by revert c h; decide
theorem lv_x_le (c : Dev nD) (x : Xfer) : lv (xCell c x) () ≤ 2 + x.2.val := by revert c x; decide

theorem owedHop_pos {c : Dev nD} {h : Fin 3} {g : GSem nD τ sig} {u : Unit} (hp : 0 < owedHop c h g u) :
    g = xCell (nxt c) (3, h) ∨ g = xCell (nxt c) (1, h) := by
  unfold owedHop at hp
  rw [Pi.add_apply, Finsupp.add_apply, tallyAt_apply, tallyAt_apply] at hp
  by_contra hn
  rw [not_or] at hn
  rw [if_neg (fun h' => hn.1 h'.1), if_neg (fun h' => hn.2 h'.1)] at hp
  exact Nat.lt_irrefl 0 hp

/-- What is owed from hop `n` on is owed to a TensorCore's cell at level `2 + n` or above. -/
theorem owedFrom_pos {c : Dev nD} : ∀ (n : ℕ) {g : GSem nD τ sig} {u : Unit}, 0 < owedFrom c n g u → u ∈ L g ∧ 2 + n ≤ lv g u := by
  have key : ∀ (h : Fin 3) (g : GSem nD τ sig) (u : Unit), 0 < owedHop c h g u → u ∈ L g ∧ lv g u = 2 + h.val := by
    intro h g u hp
    rcases owedHop_pos hp with rfl | rfl
    · exact ⟨Finset.mem_singleton_self _, lv_recvV _ h⟩
    · exact ⟨Finset.mem_singleton_self _, lv_recvK _ h⟩
  intro n
  match n with
  | 0 =>
    intro g u hp
    change 0 < (0 + owedHop c 2 + owedHop c 1 + owedHop c 0) g u at hp
    rw [zero_add, Pi.add_apply, Finsupp.add_apply, Pi.add_apply, Finsupp.add_apply] at hp
    rcases Nat.lt_or_ge 0 (owedHop c 2 g u) with h2 | h2
    · exact ⟨(key 2 g u h2).1, by rw [(key 2 g u h2).2]; decide⟩
    rcases Nat.lt_or_ge 0 (owedHop c 1 g u) with h1 | h1
    · exact ⟨(key 1 g u h1).1, by rw [(key 1 g u h1).2]; decide⟩
    have h0 : 0 < owedHop c 0 g u := by omega
    exact ⟨(key 0 g u h0).1, by rw [(key 0 g u h0).2]; decide⟩
  | 1 =>
    intro g u hp
    change 0 < (0 + owedHop c 2 + owedHop c 1) g u at hp
    rw [zero_add, Pi.add_apply, Finsupp.add_apply] at hp
    rcases Nat.lt_or_ge 0 (owedHop c 2 g u) with h2 | h2
    · exact ⟨(key 2 g u h2).1, by rw [(key 2 g u h2).2]; decide⟩
    have h1 : 0 < owedHop c 1 g u := by omega
    exact ⟨(key 1 g u h1).1, by rw [(key 1 g u h1).2]; decide⟩
  | 2 =>
    intro g u hp
    change 0 < (0 + owedHop c 2) g u at hp
    rw [zero_add] at hp
    exact ⟨(key 2 g u hp).1, by rw [(key 2 g u hp).2]; decide⟩
  | _ + 3 => intro g u hp; exact absurd hp (Nat.lt_irrefl 0)

theorem lv_bar (c : Dev nD) (u : Unit) : lv (barCell c) u = 1 := rfl

theorem O₀_pos {c : Dev nD} {g : GSem nD τ sig} {u : Unit} (hp : 0 < O₀ c g u) : u ∈ L g ∧ 1 ≤ lv g u := by
  by_cases h1 : g = barCell (prv c) ∧ u = ()
  · rw [h1.1, lv_bar, L_tc]; exact ⟨Finset.mem_singleton_self _, Nat.le_refl 1⟩
  by_cases h2 : g = barCell (nxt c) ∧ u = ()
  · rw [h2.1, lv_bar, L_tc]; exact ⟨Finset.mem_singleton_self _, Nat.le_refl 1⟩
  have hp0 : 0 < owedFrom c 0 g u := by
    unfold O₀ O₁ at hp
    rw [Pi.add_apply, Finsupp.add_apply, Pi.add_apply, Finsupp.add_apply, tallyAt_apply, tallyAt_apply, if_neg h1, if_neg h2] at hp
    exact hp
  have h := owedFrom_pos 0 hp0
  exact ⟨h.1, by omega⟩

/-- A device may wait on a copy's end of hop `h` once it owes later hops only. -/
theorem mayWait_x (c : Dev nD) (x : Xfer) :
    (levAts L lv : sProp 𝕄) ⊢ MayWait (c : Thread nD τ) (.dma (xsem x)) () (owedFrom c (x.2.val + 1)) :=
  MayOwe.of_cut (L := L) (lev := lv) (2 + x.2.val) (fun p hp => by rw [Finset.mem_singleton.mp hp, L_tc]; exact Finset.mem_singleton_self _)
    (fun g u hg => (owedFrom_pos _ hg).1)
    (fun p hp => by rw [Finset.mem_singleton.mp hp]; exact lv_x_le c x)
    (fun g u hg => lt_of_lt_of_le (by omega) (owedFrom_pos _ hg).2)

/-- And on its barrier once it has signalled both neighbours. -/
theorem mayWait_bar (c : Dev nD) : (levAts L lv : sProp 𝕄) ⊢ MayWait (c : Thread nD τ) (.reg barS) () (owedFrom c 0) :=
  MayOwe.of_cut (L := L) (lev := lv) 1 (fun p hp => by rw [Finset.mem_singleton.mp hp, L_tc]; exact Finset.mem_singleton_self _)
    (fun g u hg => (owedFrom_pos _ hg).1)
    (fun p hp => by rw [Finset.mem_singleton.mp hp]; exact le_refl _)
    (fun g u hg => lt_of_lt_of_le (by decide) (owedFrom_pos _ hg).2)

/-- And on the pipeline's own semaphores at any time. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_pos hg).1)
      (fun p hp => by rw [Finset.mem_singleton.mp hp]; exact hq.le)
      (fun g u hg => lt_of_lt_of_le (by decide) (O₀_pos hg).2)
  · rw [MayWait_zero]; iintro -; iempintro

end Cert.KernelIdeal.Ring

end
-- ==== Proof.Ideal.Stages.lean ====
/-
# The kernel's body in stages

The kernel's printed body, cut where its phases end: enter the ring and put the device's own block into slot 0; then
per hop start the two copies, run the loop on the slot at hand and wait for the copies' four ends; last the loop on
slot 3. `body_stages` says that the printed body is these stages one after the other.
-/
module

public import proofs.«01_k».proof.Proof.Ideal.Protocol

@[expose] public section

noncomputable section

namespace Cert.KernelIdeal.Ring

open Cert.KernelIdeal Cert.KernelIdeal.Gen

open Idealize.ShloMosaic Idealize.ShloMosaic.TcCoe
open Idealize.SL.Sem

variable {F : FTy → Type} [FloatOps F]

/-- Slot `n` copies whole words. -/
abbrev Words (M : Memref sig .tc .vmem S4x4096x256 .bf16) (n : ℕ) (h : SlotIn n) : Prop := (slotM M n h).view.WordExact

theorem slotIn (n : Fin 4) : SlotIn n.val := by
  have := n.isLt
  intro a
  match a with
  | ⟨0, _⟩ => show n.val + 1 ≤ 4; omega
  | ⟨1, _⟩ => exact Nat.le_refl 4096
  | ⟨2, _⟩ => exact Nat.le_refl 256

theorem wholeWords (n : Fin 4) : (slotRect n.val (slotIn n)).WholeWords (EltTy.packing .bf16) := by
  match n with
  | 0 => exact wordsbf16_S4x4096x256_S1x4096x256_0_0_0
  | 1 => exact wordsbf16_S4x4096x256_S1x4096x256_1_0_0
  | 2 => exact wordsbf16_S4x4096x256_S1x4096x256_2_0_0
  | 3 => exact wordsbf16_S4x4096x256_S1x4096x256_3_0_0

theorem words_kg (n : Fin 4) : Words kgM n.val (slotIn n) :=
  ((Memref.isWhole_whole cc0_scratch1).wordExact_slice rfl _ (wholeWords n)).reshape _ _
theorem words_vg (n : Fin 4) : Words vgM n.val (slotIn n) :=
  ((Memref.isWhole_whole cc0_scratch2).wordExact_slice rfl _ (wholeWords n)).reshape _ _

/-! ## The stages -/

/-- Signal both neighbours, wait for both, and store the device's own block in slot 0. -/
def enter (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semWaitWord barS 2#32
  let kk : Vec F S4096x256 .bf16 ← Prog.lift (.load kM (Rect.unit (s := S4096x256) ![0, 0] S4096x256.size inb_S4096x256_S4096x256_0_0).toLoadRect (View.loadsAt_vmem h_S4096x256))
  let _ : Vec F S1x4096x256 .bf16 ← Prog.lift (.load kgM (slotRect 0 inb_S4x4096x256_S1x4096x256_0_0_0).toLoadRect (View.loadsAt_vmem h_S1x4096x256))
  Prog.lift (.store kgM (slotRect 0 inb_S4x4096x256_S1x4096x256_0_0_0) (k0_pay2 kk) Finset.univ (View.stores_vmem h_S1x4096x256 ((Memref.isWhole_whole cc0_scratch1).storeExact_slice rfl _ packedbf16_S4x4096x256_S1x4096x256_0_0_0) (fun _ => rfl)) (.inl rfl))
  let vv : Vec F S4096x256 .bf16 ← Prog.lift (.load vM (Rect.unit (s := S4096x256) ![0, 0] S4096x256.size inb_S4096x256_S4096x256_0_0).toLoadRect (View.loadsAt_vmem h_S4096x256))
  let _ : Vec F S1x4096x256 .bf16 ← Prog.lift (.load vgM (slotRect 0 inb_S4x4096x256_S1x4096x256_0_0_0).toLoadRect (View.loadsAt_vmem h_S1x4096x256))
  Prog.lift (.store vgM (slotRect 0 inb_S4x4096x256_S1x4096x256_0_0_0) (k0_pay3 vv) Finset.univ (View.stores_vmem h_S1x4096x256 ((Memref.isWhole_whole cc0_scratch2).storeExact_slice rfl _ packedbf16_S4x4096x256_S1x4096x256_0_0_0) (fun _ => rfl)) (.inl rfl))

/-- Start hop `h`'s two copies, of the keys to device `dK` and of the values to device `dV`. -/
def hop (h : Fin 3) (dK dV : Dev nD) : Prog (TpuEff nD τ sig (Elt F) Λ₀ .tc) PUnit := do
  Prog.lift (.enqueueDma (slotM kgM h.castSucc.val (slotIn h.castSucc)) (.remote (Dev.tc dK) (slotM kgM h.succ.val (slotIn h.succ)) (.dma (xsem (0, h)))) (.dma (xsem (1, h)))
    (words_kg h.castSucc) (words_kg h.succ) ⟨⟨rfl, Or.inl rfl⟩, trivial⟩)
  Prog.lift (.enqueueDma (slotM vgM h.castSucc.val (slotIn h.castSucc)) (.remote (Dev.tc dV) (slotM vgM h.succ.val (slotIn h.succ)) (.dma (xsem (2, h)))) (.dma (xsem (3, h)))
    (words_vg h.castSucc) (words_vg h.succ) ⟨⟨rfl, Or.inl rfl⟩, trivial⟩)

/-- Scale the queries. -/
def scale : Prog (TpuEff nD τ sig (Elt F) Λ₀ .tc) PUnit := do
  let q : Vec F S4096x256 .bf16 ← Prog.lift (.load qM (Rect.unit (s := S4096x256) ![0, 0] S4096x256.size inb_S4096x256_S4096x256_0_0).toLoadRect (View.loadsAt_vmem h_S4096x256))
  let _ : Vec F S4096x256 .bf16 ← Prog.lift (.load qsM (Rect.unit (s := S4096x256) ![0, 0] S4096x256.size inb_S4096x256_S4096x256_0_0).toLoadRect (View.loadsAt_vmem h_S4096x256))
  Prog.lift (.store qsM (Rect.unit (s := S4096x256) ![0, 0] S4096x256.size inb_S4096x256_S4096x256_0_0) (k0_pay4 q) Finset.univ (View.stores_vmem h_S4096x256 ((Memref.isWhole_whole cc0_scratch0).storeExact_slice rfl _ packedbf16_S4096x256_S4096x256_0_0) (fun _ => rfl)) (.inl rfl))

/-- Wait for the four ends of hop `h`'s copies. -/
def drain (h : Fin 3) : Prog (TpuEff nD τ sig (Elt F) Λ₀ .tc) PUnit := do
  Prog.lift (.waitDma2 (xsem (0, h)) (slotM kgM h.succ.val (slotIn h.succ)) (slotM kgM h.castSucc.val (slotIn h.castSucc)) (words_kg h.succ) (words_kg h.castSucc))
  Prog.lift (.waitDma2 (xsem (1, h)) (slotM kgM h.castSucc.val (slotIn h.castSucc)) (slotM kgM h.succ.val (slotIn h.succ)) (words_kg h.castSucc) (words_kg h.succ))
  Prog.lift (.waitDma2 (xsem (2, h)) (slotM vgM h.succ.val (slotIn h.succ)) (slotM vgM h.castSucc.val (slotIn h.castSucc)) (words_vg h.succ) (words_vg h.castSucc))
  Prog.lift (.waitDma2 (xsem (3, h)) (slotM vgM h.castSucc.val (slotIn h.castSucc)) (slotM vgM h.succ.val (slotIn h.succ)) (words_vg h.castSucc) (words_vg h.succ))

/-- The four loops. -/
def loop0 : Prog (TpuEff nD τ sig (Elt F) Λ₀ .tc) Unit :=
  Scf.Loop.for k0_t1_loop k0_t1_ok ⟨⟩ fun t _ => firstTrip 0 (slotIn 0) (k0_off1 t) (k0_off2 t) (k0_off1_inb t) (k0_off2_inb t)
def loop1 : Prog (TpuEff nD τ sig (Elt F) Λ₀ .tc) Unit :=
  Scf.Loop.for k0_t2_loop k0_t2_ok ⟨⟩ fun t _ => addTrip 1 (slotIn 1) (k0_off3 t) (k0_off4 t) (k0_off3_inb t) (k0_off4_inb t) k0_pay9 k0_pay10
def loop2 : Prog (TpuEff nD τ sig (Elt F) Λ₀ .tc) Unit :=
  Scf.Loop.for k0_t3_loop k0_t3_ok ⟨⟩ fun t _ => addTrip 2 (slotIn 2) (k0_off5 t) (k0_off6 t) (k0_off5_inb t) (k0_off6_inb t) k0_pay12 k0_pay13
def loop3 : Prog (TpuEff nD τ sig (Elt F) Λ₀ .tc) Unit :=
  Scf.Loop.for k0_t4_loop k0_t4_ok ⟨⟩ fun t _ => lastTrip 3 (slotIn 3) (k0_off7 t) (k0_off8 t) (k0_off7_inb t) (k0_off8_inb t)

/-- The body, stage by stage. -/
def stages : Prog (TpuEff nD τ sig (Elt F) Λ₀ .tc) PUnit := do
  let d : Dev nD ← Prog.lift .deviceId
  enter d
  hop 0 ⟨k0_dev3 d, k0_dev3_lt d⟩ ⟨k0_dev4 d, k0_dev4_lt d⟩
  scale
  loop0
  drain 0
  hop 1 ⟨k0_dev5 d, k0_dev5_lt d⟩ ⟨k0_dev6 d, k0_dev6_lt d⟩
  loop1
  drain 1
  hop 2 ⟨k0_dev7 d, k0_dev7_lt d⟩ ⟨k0_dev8 d, k0_dev8_lt d⟩
  loop2
  drain 2
  let _ ← loop3
  pure ⟨⟩

set_option maxRecDepth 65536 in
set_option maxHeartbeats 2000000 in
/-- The printed body is its stages. -/
theorem body_stages :
    cc0_body (F := F) qM (Memref.isWhole_whole _) kM (Memref.isWhole_whole _) vM (Memref.isWhole_whole _) outM (Memref.isWhole_whole _)
      qsM (Memref.isWhole_whole _) kgM (Memref.isWhole_whole _) vgM (Memref.isWhole_whole _) lM (Memref.isWhole_whole _) accM (Memref.isWhole_whole _)
      cc0_scratch5 cc0_scratch6 cc0_scratch7 cc0_scratch8 = stages := by
  rw [cc0_body_eq_skeleton]
  unfold cc0_body_skel stages enter hop scale drain
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, Prog.bind_assoc]
  rfl

end Cert.KernelIdeal.Ring

end
-- ==== Proof.Ideal.Hops.lean ====
/-
# The ring's stages, one by one

What each stage of the body takes and gives: entering the ring, a hop's two copies, and the waits for their four ends.
A hop is stated once, for all three.
-/
module

public import proofs.«01_k».proof.Proof.Ideal.Stages

@[expose] public section

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (kX vX : Dev nD → Vec F S4096x256 .bf16)

/-! ## All cells and their records -/

/-- A device's cells: its barrier's, and its copies' ends. -/
abbrev CellId : Type := Dev nD × Option Xfer
def cellAt (p : CellId) : GSem nD τ sig :=
  match p.2 with
  | none => barCell p.1
  | some x => xCell p.1 x

/-- Every cell's invariant, under the name `K` gives it, and that it stands at round 0. -/
def records (K : CellId → ℕ) : sProp 𝕄 :=
  iprop(bigSep (Finset.univ : Finset CellId) (fun p => cellInv ER (ringRd kX vX) (K p) (cellAt p))
    ∗ bigSep (Finset.univ : Finset CellId) (fun p => reached ER (cellAt p) 0))

instance records_persistent (K) : BI.Persistent (records (F := F) kX vX K) := by unfold records; infer_instance

variable (K : CellId → ℕ) (c : Dev nD)

theorem inv_at (p : CellId) : records kX vX K ⊢ cellInv ER (ringRd kX vX) (K p) (cellAt p) :=
  sep_elim_left.trans (bigSep_elim (Finset.mem_univ p))
theorem mark_at (p : CellId) : records (F := F) kX vX K ⊢ reached ER (cellAt p) 0 :=
  sep_elim_right.trans (bigSep_elim (Finset.mem_univ p))

/-- What device `c` still owes, whatever it waited for. -/
def owing (O : CellTallies nD τ sig Unit) : sProp 𝕄 := iprop(∃ W, owes (c : Thread nD τ) O W)

/-! ## A hop -/

/-- The right to pay the four ends of hop `h`'s copies. -/
def hopToks (h : Fin 3) : sProp 𝕄 :=
  iprop(dutyTok ER (xCell c (0, h)) 0 false ∗ dutyTok ER (xCell (nxt c) (1, h)) 0 false
    ∗ dutyTok ER (xCell c (2, h)) 0 false ∗ dutyTok ER (xCell (nxt c) (3, h)) 0 false)

/-- The keys' copy. -/
theorem wp_sendK (h : Fin 3) (d : Dev nD) (hd : d = nxt c) (O : CellTallies nD τ sig Unit) (W : Waits sig Unit)
    (fn : S4x4096x256.Idx → Elt F .bf16)
    {hsc : (slotM kgM h.succ.val (slotIn h.succ) : Memref sig (Dev.tc d : Thread nD τ).2.kind .vmem S4096x256 .bf16).view.ref.isScScratch = false}
    {hsrc : (slotM kgM h.castSucc.val (slotIn h.castSucc)).view.WordExact}
    {hdst : (slotM kgM h.succ.val (slotIn h.succ)).view.WordExact}
    {hsem : DmaTarget.Typed .vmem (.dma (xsem (1, h))) (.remote (Dev.tc d : Thread nD τ) (slotM kgM h.succ.val (slotIn h.succ)) (.dma (xsem (0, h))) hsc)}
    {α : Type} {Q : α → sProp 𝕄} {k : PUnit → Prog (TpuEff nD τ sig (Elt F) Λ₀ .tc) α} :
    iprop(records kX vX K ∗ kgPts c h.castSucc fullShare.left (gather (keysAt kX c)) ∗ kgPts (nxt c) h.succ fullShare fn
        ∗ owes (c : Thread nD τ) (O + tallyAt (xCell (nxt c) (1, h)) () N) W
        ∗ dutyTok ER (xCell c (0, h)) 0 false ∗ dutyTok ER (xCell (nxt c) (1, h)) 0 false)
      ⊢ iprop(((cred (tallyAt (xCell c (0, h)) () N) ∗ owes (c : Thread nD τ) O W)
            -∗ wp frame (wpE (defs₀ (F := F)) 𝒱r (c : Thread nD τ) none) Set.univ (k ⟨⟩) Q)
          -∗ wp frame (wpE (defs₀ (F := F)) 𝒱r (c : Thread nD τ) none) Set.univ
              (.op (.enqueueDma (slotM kgM h.castSucc.val (slotIn h.castSucc))
                (.remote (Dev.tc d : Thread nD τ) (slotM kgM h.succ.val (slotIn h.succ)) (.dma (xsem (0, h))) hsc) (.dma (xsem (1, h))) hsrc hdst hsem) k) Q) := by
  subst hd
  iintro ⟨#HR, Hs, Hd, HO, Ht0, Ht1⟩
  ihave #I0 := (inv_at kX vX K (c, some (0, h))) $$ HR
  ihave #I1 := (inv_at kX vX K (nxt c, some (1, h))) $$ HR
  ihave #M0 := (mark_at kX vX K (c, some (0, h))) $$ HR
  ihave #M1 := (mark_at kX vX K (nxt c, some (1, h))) $$ HR
  iapply (Rounds.wp_send_pointsTo 𝒱r ER (ringRd kX vX) (c : Thread nD τ) none (c' := (nxt c : Thread nD τ)) (κ₁ := K (c, some (0, h))) (κ₂ := K (nxt c, some (1, h)))
    (src := slotM kgM h.castSucc.val (slotIn h.castSucc)) (dst := slotM kgM h.succ.val (slotIn h.succ)) (sS := .dma (xsem (0, h))) (sem := .dma (xsem (1, h)))
    (r₁ := 0) (r₂ := 0) (d₁ := false) (d₂ := false) (q := fullShare.left) (fs := gather (keysAt kX c)) (fd := fn)
    (by rw [duties_x]; exact Finset.mem_singleton_self _) (by rw [duties_x]; exact Finset.mem_singleton_self _)
    () () N rfl (amount_x kX vX c (0, h) false) (amount_x kX vX (nxt c) (1, h) false) O rfl (W := W)
    (by rw [payload_x, kgPts_slotM]; exact BI.Entails.refl _)
    (by
      rw [payload_x, kgPts_slotM]
      refine Entails.of_eq ?_
      show kgPts _ _ _ _ = kgPts _ _ _ _
      unfold kgPts
      exact pointsTo_congr (kg_copied (keysAt kX c) (keysAt kX (nxt c)) h.castSucc h.succ (slotIn _) (slotIn _) (keysAt_nxt kX c h) fn)))
    $$ [Hs Hd HO Ht0 Ht1]
  isplitr; · iexact I0
  isplitr; · iexact I1
  isplitl [Hs]; · rw [kgPts_slotM]; iexact Hs
  isplitl [Hd]; · rw [kgPts_slotM]; iexact Hd
  isplitl [HO]; · iexact HO
  isplitl [Ht0]; · iexact Ht0
  isplitr; · iexact M0
  isplitl [Ht1]; · iexact Ht1
  iexact M1

/-- The values' copy. -/
theorem wp_sendV (h : Fin 3) (d : Dev nD) (hd : d = nxt c) (O : CellTallies nD τ sig Unit) (W : Waits sig Unit)
    (fn : S4x4096x256.Idx → Elt F .bf16)
    {hsc : (slotM vgM h.succ.val (slotIn h.succ) : Memref sig (Dev.tc d : Thread nD τ).2.kind .vmem S4096x256 .bf16).view.ref.isScScratch = false}
    {hsrc : (slotM vgM h.castSucc.val (slotIn h.castSucc)).view.WordExact}
    {hdst : (slotM vgM h.succ.val (slotIn h.succ)).view.WordExact}
    {hsem : DmaTarget.Typed .vmem (.dma (xsem (3, h))) (.remote (Dev.tc d : Thread nD τ) (slotM vgM h.succ.val (slotIn h.succ)) (.dma (xsem (2, h))) hsc)}
    {α : Type} {Q : α → sProp 𝕄} {k : PUnit → Prog (TpuEff nD τ sig (Elt F) Λ₀ .tc) α} :
    iprop(records kX vX K ∗ vgPts c h.castSucc fullShare.left (gather (valsAt vX c)) ∗ vgPts (nxt c) h.succ fullShare fn
        ∗ owes (c : Thread nD τ) (O + tallyAt (xCell (nxt c) (3, h)) () N) W
        ∗ dutyTok ER (xCell c (2, h)) 0 false ∗ dutyTok ER (xCell (nxt c) (3, h)) 0 false)
      ⊢ iprop(((cred (tallyAt (xCell c (2, h)) () N) ∗ owes (c : Thread nD τ) O W)
            -∗ wp frame (wpE (defs₀ (F := F)) 𝒱r (c : Thread nD τ) none) Set.univ (k ⟨⟩) Q)
          -∗ wp frame (wpE (defs₀ (F := F)) 𝒱r (c : Thread nD τ) none) Set.univ
              (.op (.enqueueDma (slotM vgM h.castSucc.val (slotIn h.castSucc))
                (.remote (Dev.tc d : Thread nD τ) (slotM vgM h.succ.val (slotIn h.succ)) (.dma (xsem (2, h))) hsc) (.dma (xsem (3, h))) hsrc hdst hsem) k) Q) := by
  subst hd
  iintro ⟨#HR, Hs, Hd, HO, Ht0, Ht1⟩
  ihave #I0 := (inv_at kX vX K (c, some (2, h))) $$ HR
  ihave #I1 := (inv_at kX vX K (nxt c, some (3, h))) $$ HR
  ihave #M0 := (mark_at kX vX K (c, some (2, h))) $$ HR
  ihave #M1 := (mark_at kX vX K (nxt c, some (3, h))) $$ HR
  iapply (Rounds.wp_send_pointsTo 𝒱r ER (ringRd kX vX) (c : Thread nD τ) none (c' := (nxt c : Thread nD τ)) (κ₁ := K (c, some (2, h))) (κ₂ := K (nxt c, some (3, h)))
    (src := slotM vgM h.castSucc.val (slotIn h.castSucc)) (dst := slotM vgM h.succ.val (slotIn h.succ)) (sS := .dma (xsem (2, h))) (sem := .dma (xsem (3, h)))
    (r₁ := 0) (r₂ := 0) (d₁ := false) (d₂ := false) (q := fullShare.left) (fs := gather (valsAt vX c)) (fd := fn)
    (by rw [duties_x]; exact Finset.mem_singleton_self _) (by rw [duties_x]; exact Finset.mem_singleton_self _)
    () () N rfl (amount_x kX vX c (2, h) false) (amount_x kX vX (nxt c) (3, h) false) O rfl (W := W)
    (by rw [payload_x, vgPts_slotM]; exact BI.Entails.refl _)
    (by
      rw [payload_x, vgPts_slotM]
      refine Entails.of_eq ?_
      show vgPts _ _ _ _ = vgPts _ _ _ _
      unfold vgPts
      exact pointsTo_congr (vg_copied (valsAt vX c) (valsAt vX (nxt c)) h.castSucc h.succ (slotIn _) (slotIn _) (valsAt_nxt vX c h) fn)))
    $$ [Hs Hd HO Ht0 Ht1]
  isplitr; · iexact I0
  isplitr; · iexact I1
  isplitl [Hs]; · rw [vgPts_slotM]; iexact Hs
  isplitl [Hd]; · rw [vgPts_slotM]; iexact Hd
  isplitl [HO]; · iexact HO
  isplitl [Ht0]; · iexact Ht0
  isplitr; · iexact M0
  isplitl [Ht1]; · iexact Ht1
  iexact M1

/-- A slot's two half shares. -/
theorem kg_halves (n : Fin 4) (f) : (kgPts (F := F) c n fullShare f) ⊣⊢ iprop(kgPts c n fullShare.left f ∗ kgPts c n fullShare.right f) :=
  pointsTo_share (PosShare.mem_left_op_right fullShare)
theorem vg_halves (n : Fin 4) (f) : (vgPts (F := F) c n fullShare f) ⊣⊢ iprop(vgPts c n fullShare.left f ∗ vgPts c n fullShare.right f) :=
  pointsTo_share (PosShare.mem_left_op_right fullShare)

/-- What hop `h` starts from: slot `h` of both gathered buffers, and the permission to write the next device's slot `h + 1`. -/
def hopPre (h : Fin 3) : sProp 𝕄 :=
  iprop(kgPts c h.castSucc fullShare (gather (keysAt kX c)) ∗ vgPts c h.castSucc fullShare (gather (valsAt vX c))
    ∗ land (nxt c) h ∗ owing c (owedFrom c h.val) ∗ hopToks c h)
/-- What it leaves: the credits of the two sending ends and the half of slot `h` the copies do not read. -/
def hopPost (h : Fin 3) : sProp 𝕄 :=
  iprop(kgPts c h.castSucc fullShare.right (gather (keysAt kX c)) ∗ vgPts c h.castSucc fullShare.right (gather (valsAt vX c))
    ∗ cred (tallyAt (xCell c (0, h)) () N) ∗ cred (tallyAt (xCell c (2, h)) () N) ∗ owing c (owedFrom c (h.val + 1)))

theorem wp_hop (h : Fin 3) (dK dV : Dev nD) (hK : dK = nxt c) (hV : dV = nxt c)
    {α : Type} {Q : α → sProp 𝕄} {k : PUnit → Prog (TpuEff nD τ sig (Elt F) Λ₀ .tc) α} :
    iprop(records kX vX K ∗ hopPre kX vX c h)
      ⊢ iprop((hopPost kX vX c h -∗ wp frame (wpE (defs₀ (F := F)) 𝒱r (c : Thread nD τ) none) Set.univ (k ⟨⟩) Q)
          -∗ wp frame (wpE (defs₀ (F := F)) 𝒱r (c : Thread nD τ) none) Set.univ (hop h dK dV >>= k) Q) := by
  unfold hop hopPre land owing hopToks
  simp only [Prog.lift, Prog.bind_op, Prog.bind_ret, Prog.pure_eq_ret]
  iintro ⟨#HR, Hk, Hv, ⟨⟨%fk, Hlk⟩, ⟨%fv, Hlv⟩⟩, ⟨%W, HO⟩, Ht0, Ht1, Ht2, Ht3⟩ Hc
  ihave Hk2 := ((kg_halves c h.castSucc _).1) $$ Hk
  icases Hk2 with ⟨HkL, HkR⟩
  ihave Hv2 := ((vg_halves c h.castSucc _).1) $$ Hv
  icases Hv2 with ⟨HvL, HvR⟩
  rw [show owedFrom c h.val = (owedFrom c (h.val + 1) + tallyAt (xCell (nxt c) (3, h)) () N) + tallyAt (xCell (nxt c) (1, h)) () N from
    (owedFrom_hop c h).trans (add_assoc _ _ _).symm]
  iapply (wp_sendK kX vX K c h dK hK _ W fk) $$ [HkL Hlk HO Ht0 Ht1]
  · isplitr; · iexact HR
    isplitl [HkL]; · iexact HkL
    isplitl [Hlk]; · iexact Hlk
    isplitl [HO]; · iexact HO
    isplitl [Ht0] <;> iassumption
  iintro ⟨Hc0, HO⟩
  iapply (wp_sendV kX vX K c h dV hV _ W fv) $$ [HvL Hlv HO Ht2 Ht3]
  · isplitr; · iexact HR
    isplitl [HvL]; · iexact HvL
    isplitl [Hlv]; · iexact Hlv
    isplitl [HO]; · iexact HO
    isplitl [Ht2] <;> iassumption
  iintro ⟨Hc2, HO⟩
  iapply Hc
  unfold hopPost owing
  isplitl [HkR]; · iexact HkR
  isplitl [HvR]; · iexact HvR
  isplitl [Hc0]; · iexact Hc0
  isplitl [Hc2]; · iexact Hc2
  iexists W; iexact HO

/-! ## Waiting for a hop's ends -/

/-- A copy's end, waited for and closed. -/
theorem wp_end (x : Xfer) (W : Waits sig Unit) {mA mB : Memref sig .tc .vmem S4096x256 .bf16} {wA : mA.view.WordExact} {wB : mB.view.WordExact}
    (hN : mB.view.dmaCredit = N)
    {α : Type} {Q : α → sProp 𝕄} {k : PUnit → Prog (TpuEff nD τ sig (Elt F) Λ₀ .tc) α} :
    iprop(records kX vX K ∗ levAts L lv ∗ cred (tallyAt (xCell c x) () N) ∗ owes (c : Thread nD τ) (owedFrom c (x.2.val + 1)) W
        ∗ atPos ER (xCell c x) 0 ∅ 0)
      ⊢ iprop(((xPay kX vX c x ∗ semVal (xCell c x) 0 ∗ owes (c : Thread nD τ) (owedFrom c (x.2.val + 1)) (insert (SemLoc.dma (xsem x), ()) W))
            -∗ wp frame (wpE (defs₀ (F := F)) 𝒱r (c : Thread nD τ) none) Set.univ (k ⟨⟩) Q)
          -∗ wp frame (wpE (defs₀ (F := F)) 𝒱r (c : Thread nD τ) none) Set.univ (.op (.waitDma2 (xsem x) mA mB wA wB) k) Q) := by
  iintro ⟨#HR, #Hlev, Hcr, HO, Hat⟩ Hc
  ihave #I := (inv_at kX vX K (c, some x)) $$ HR
  iapply (Rounds.wp_wait_rest_token 𝒱r ER (ringRd kX vX) (c : Thread nD τ) none (κ := K (c, some x))
      (wpE_waitDma2_eq 𝒱r (c : Thread nD τ) none Set.univ) (Set.mem_univ _) () (O := owedFrom c (x.2.val + 1)) (W := W) (R := 0) (m := 0) (T := ∅)
      (by rw [Nat.zero_add, expect_x, hN])) $$ [Hcr HO Hat]
  · isplitr; · iexact I
    isplitl [Hcr]; · rw [hN]; iexact Hcr
    isplitl [HO]; · iexact HO
    isplitr; · iapply (mayWait_x c x); iexact Hlev
    iexact Hat
  iintro ⟨HO, Hat, -, Hpay⟩
  ihave Hp := (Entails.of_eq (rest_x kX vX c x)) $$ Hpay
  imod (Rounds.cell_close ER (ringRd kX vX) (Set.mem_univ (K (c, some x))) (fun h => h) (R := 0 + 1) (duties_later kX vX (xCell c x))) $$ [Hat] with Hz
  · isplitr; · iexact I
    iexact Hat
  iapply Hc
  isplitl [Hp]; · iexact Hp
  isplitl [Hz] <;> iassumption

theorem kg_credit (n : Fin 4) : (slotM kgM n.val (slotIn n)).view.dmaCredit = N := rfl
theorem vg_credit (n : Fin 4) : (slotM vgM n.val (slotIn n)).view.dmaCredit = N := rfl

/-- What the waits take: the four ends' credits and positions. -/
def drainPre (h : Fin 3) : sProp 𝕄 :=
  iprop(owing c (owedFrom c (h.val + 1))
    ∗ (cred (tallyAt (xCell c (0, h)) () N) ∗ cred (tallyAt (xCell c (1, h)) () N) ∗ cred (tallyAt (xCell c (2, h)) () N) ∗ cred (tallyAt (xCell c (3, h)) () N))
    ∗ (atPos ER (xCell c (0, h)) 0 ∅ 0 ∗ atPos ER (xCell c (1, h)) 0 ∅ 0 ∗ atPos ER (xCell c (2, h)) 0 ∅ 0 ∗ atPos ER (xCell c (3, h)) 0 ∅ 0))
/-- The four cells of hop `h`, back at zero. -/
def zeros (h : Fin 3) : sProp 𝕄 :=
  iprop(semVal (xCell c (0, h)) 0 ∗ semVal (xCell c (1, h)) 0 ∗ semVal (xCell c (2, h)) 0 ∗ semVal (xCell c (3, h)) 0)
/-- What they give: the halves of slot `h` that the copies read, and slot `h + 1` filled. -/
def drainPost (h : Fin 3) : sProp 𝕄 :=
  iprop(owing c (owedFrom c (h.val + 1)) ∗ zeros c h
    ∗ kgPts c h.castSucc fullShare.left (gather (keysAt kX c)) ∗ vgPts c h.castSucc fullShare.left (gather (valsAt vX c))
    ∗ kgPts c h.succ fullShare (gather (keysAt kX c)) ∗ vgPts c h.succ fullShare (gather (valsAt vX c)))

theorem wp_drain (h : Fin 3)
    {α : Type} {Q : α → sProp 𝕄} {k : PUnit → Prog (TpuEff nD τ sig (Elt F) Λ₀ .tc) α} :
    iprop(records kX vX K ∗ levAts L lv ∗ drainPre c h)
      ⊢ iprop((drainPost kX vX c h -∗ wp frame (wpE (defs₀ (F := F)) 𝒱r (c : Thread nD τ) none) Set.univ (k ⟨⟩) Q)
          -∗ wp frame (wpE (defs₀ (F := F)) 𝒱r (c : Thread nD τ) none) Set.univ (drain h >>= k) Q) := by
  unfold drain drainPre owing
  simp only [Prog.lift, Prog.bind_op, Prog.bind_ret, Prog.pure_eq_ret]
  iintro ⟨#HR, #Hlev, ⟨%W, HO⟩, ⟨Hc0, Hc1, Hc2, Hc3⟩, Ha0, Ha1, Ha2, Ha3⟩ Hc
  iapply (wp_end kX vX K c (0, h) W (kg_credit h.castSucc)) $$ [Hc0 HO Ha0]
  · isplitr; · iexact HR
    isplitr; · iexact Hlev
    isplitl [Hc0]; · iexact Hc0
    isplitl [HO] <;> iassumption
  iintro ⟨HkL, Hz0, HO⟩
  iapply (wp_end kX vX K c (1, h) _ (kg_credit h.succ)) $$ [Hc1 HO Ha1]
  · isplitr; · iexact HR
    isplitr; · iexact Hlev
    isplitl [Hc1]; · iexact Hc1
    isplitl [HO] <;> iassumption
  iintro ⟨Hkn, Hz1, HO⟩
  iapply (wp_end kX vX K c (2, h) _ (vg_credit h.castSucc)) $$ [Hc2 HO Ha2]
  · isplitr; · iexact HR
    isplitr; · iexact Hlev
    isplitl [Hc2]; · iexact Hc2
    isplitl [HO] <;> iassumption
  iintro ⟨HvL, Hz2, HO⟩
  iapply (wp_end kX vX K c (3, h) _ (vg_credit h.succ)) $$ [Hc3 HO Ha3]
  · isplitr; · iexact HR
    isplitr; · iexact Hlev
    isplitl [Hc3]; · iexact Hc3
    isplitl [HO] <;> iassumption
  iintro ⟨Hvn, Hz3, HO⟩
  iapply Hc
  dsimp only [xPay]
  unfold drainPost zeros owing
  isplitl [HO]; · iexists _; iexact HO
  isplitl [Hz0 Hz1 Hz2 Hz3]
  · isplitl [Hz0]; · iexact Hz0
    isplitl [Hz1]; · iexact Hz1
    isplitl [Hz2] <;> iassumption
  isplitl [HkL]; · iexact HkL
  isplitl [HvL]; · iexact HvL
  isplitl [Hkn] <;> iassumption

end Cert.KernelIdeal.Ring

end
-- ==== Proof.Ideal.Body.lean ====
/-
# The body on one device

The remaining stages (entering the ring, scaling the queries, the four loops), and the whole body: from the staged
blocks and the ring's permissions to the staged result, every cell back at zero.
-/
module

public import proofs.«01_k».proof.Proof.Ideal.Hops

@[expose] public section

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (qX kX vX : Dev nD → Vec F S4096x256 .bf16) (K : CellId → ℕ) (c : Dev nD)

/-! ## Whole buffers -/

def qPts (f : S4096x256.Idx → Elt F .bf16) : sProp 𝕄 :=
  iprop(((c : Thread nD τ).loc cc0_stg0_0) ↦{fullShare} (f : Buf (Elt F) ((c : Thread nD τ).loc cc0_stg0_0)))
def kPts (f : S4096x256.Idx → Elt F .bf16) : sProp 𝕄 :=
  iprop(((c : Thread nD τ).loc cc0_stg1_0) ↦{fullShare} (f : Buf (Elt F) ((c : Thread nD τ).loc cc0_stg1_0)))
def vPts (f : S4096x256.Idx → Elt F .bf16) : sProp 𝕄 :=
  iprop(((c : Thread nD τ).loc cc0_stg2_0) ↦{fullShare} (f : Buf (Elt F) ((c : Thread nD τ).loc cc0_stg2_0)))
def qsPts (f : S4096x256.Idx → Elt F .bf16) : sProp 𝕄 :=
  iprop(((c : Thread nD τ).loc cc0_scratch0) ↦{fullShare} (f : Buf (Elt F) ((c : Thread nD τ).loc cc0_scratch0)))
def kgAll (f : S4x4096x256.Idx → Elt F .bf16) : sProp 𝕄 :=
  iprop(((c : Thread nD τ).loc cc0_scratch1) ↦{fullShare} (f : Buf (Elt F) ((c : Thread nD τ).loc cc0_scratch1)))
def vgAll (f : S4x4096x256.Idx → Elt F .bf16) : sProp 𝕄 :=
  iprop(((c : Thread nD τ).loc cc0_scratch2) ↦{fullShare} (f : Buf (Elt F) ((c : Thread nD τ).loc cc0_scratch2)))
def lPts (f : S4096x1.Idx → Elt F .f32) : sProp 𝕄 :=
  iprop(((c : Thread nD τ).loc cc0_scratch3) ↦{fullShare} (f : Buf (Elt F) ((c : Thread nD τ).loc cc0_scratch3)))
def accPts (f : S4096x256.Idx → Elt F .f32) : sProp 𝕄 :=
  iprop(((c : Thread nD τ).loc cc0_scratch4) ↦{fullShare} (f : Buf (Elt F) ((c : Thread nD τ).loc cc0_scratch4)))

theorem slots_all : (Finset.univ : Finset S4x4096x256.Idx) = Finset.univ.biUnion slotSet := by
  ext i
  refine ⟨fun _ => Finset.mem_biUnion.mpr ⟨i (0 : Fin 3), Finset.mem_univ _, Finset.mem_filter.mpr ⟨Finset.mem_univ _, rfl⟩⟩, fun _ => Finset.mem_univ _⟩
theorem slots_apart : ∀ n ∈ (Finset.univ : Finset (Fin 4)), ∀ n' ∈ (Finset.univ : Finset (Fin 4)), n ≠ n' → Disjoint (slotSet n) (slotSet n') := by
  intro n _ n' _ hne
  refine Finset.disjoint_left.mpr fun i hi hi' => hne (Fin.ext ?_)
  exact (Finset.mem_filter.mp hi).2.symm.trans (Finset.mem_filter.mp hi').2

/-- A gathered buffer is its four slots. -/
theorem kgAll_slots (f) : kgAll (F := F) c f = iprop(kgPts c 0 fullShare f ∗ kgPts c 1 fullShare f ∗ kgPts c 2 fullShare f ∗ kgPts c 3 fullShare f) := by
  unfold kgAll kgPts
  have h : (_ : sProp 𝕄) = _ := pointsTo_biUnion (ℓ := (c : Thread nD τ).loc cc0_scratch1) (f := (f : Buf (Elt F) ((c : Thread nD τ).loc cc0_scratch1))) (q := fullShare)
    (T := Fin 4) Finset.univ (fun n => slotSet n) slots_apart
  rw [bigSep_univ_eq_bigSepL [0, 1, 2, 3] (by decide) (by decide)] at h
  refine Eq.trans ?_ h
  rw [← slots_all]
theorem vgAll_slots (f) : vgAll (F := F) c f = iprop(vgPts c 0 fullShare f ∗ vgPts c 1 fullShare f ∗ vgPts c 2 fullShare f ∗ vgPts c 3 fullShare f) := by
  unfold vgAll vgPts
  have h : (_ : sProp 𝕄) = _ := pointsTo_biUnion (ℓ := (c : Thread nD τ).loc cc0_scratch2) (f := (f : Buf (Elt F) ((c : Thread nD τ).loc cc0_scratch2))) (q := fullShare)
    (T := Fin 4) Finset.univ (fun n => slotSet n) slots_apart
  rw [bigSep_univ_eq_bigSepL [0, 1, 2, 3] (by decide) (by decide)] at h
  refine Eq.trans ?_ h
  rw [← slots_all]

theorem zeros2 : (![0, 0] : Fin 2 → ℕ) = fun _ => 0 := funext fun a => by fin_cases a <;> rfl

abbrev allRows : Rect S4096x256 := Rect.unit (s := S4096x256) ![0, 0] S4096x256.size inb_S4096x256_S4096x256_0_0
theorem read_q (f : S4096x256.Idx → Elt F .bf16) : qM.view.readAt (Elt F) allRows.toLoadRect f = f := Memref.readAt_unit_zero (Elt F) cc0_stg0_0 zeros2 _ f
theorem read_k (f : S4096x256.Idx → Elt F .bf16) : kM.view.readAt (Elt F) allRows.toLoadRect f = f := Memref.readAt_unit_zero (Elt F) cc0_stg1_0 zeros2 _ f
theorem read_v (f : S4096x256.Idx → Elt F .bf16) : vM.view.readAt (Elt F) allRows.toLoadRect f = f := Memref.readAt_unit_zero (Elt F) cc0_stg2_0 zeros2 _ f
theorem write_qs (f w : S4096x256.Idx → Elt F .bf16) : (qsM.access allRows).write (Elt F) f w Finset.univ = w :=
  Memref.write_access_unit_zero_univ (Elt F) cc0_scratch0 zeros2 _ f w

/-- Storing slot `n` of a gathered buffer. -/
theorem kg_stored (G : Fin 4 → Vec F S1x4096x256 .bf16) (n : Fin 4) (h : SlotIn n.val) (f : S4x4096x256.Idx → Elt F .bf16) :
    ∀ i ∈ slotSet n, (kgM.access (slotRect n.val h)).write (Elt F) f (G n) Finset.univ i = gather G i := by
  intro i hi
  rw [← slotRect_set n h] at hi
  obtain ⟨j, -, rfl⟩ := Finset.mem_map.mp ((Rect.map_emb_univ _).symm ▸ hi)
  exact (View.write_emb_of_mem (v := kgM.access (slotRect n.val h)) _ _ (Finset.mem_univ j)).trans (gather_emb G n h j).symm
theorem vg_stored (G : Fin 4 → Vec F S1x4096x256 .bf16) (n : Fin 4) (h : SlotIn n.val) (f : S4x4096x256.Idx → Elt F .bf16) :
    ∀ i ∈ slotSet n, (vgM.access (slotRect n.val h)).write (Elt F) f (G n) Finset.univ i = gather G i := by
  intro i hi
  rw [← slotRect_set n h] at hi
  obtain ⟨j, -, rfl⟩ := Finset.mem_map.mp ((Rect.map_emb_univ _).symm ▸ hi)
  exact (View.write_emb_of_mem (v := vgM.access (slotRect n.val h)) _ _ (Finset.mem_univ j)).trans (gather_emb G n h j).symm

theorem kg_access (n : Fin 4) (h : SlotIn n.val) : (kgM.access (slotRect n.val h)).setOn Finset.univ ⊆ slotSet n := by
  rw [View.setOn_univ, ← slotRect_set n h]
  exact (View.set_slice_whole cc0_scratch1 (slotRect n.val h)).le
theorem vg_access (n : Fin 4) (h : SlotIn n.val) : (vgM.access (slotRect n.val h)).setOn Finset.univ ⊆ slotSet n := by
  rw [View.setOn_univ, ← slotRect_set n h]
  exact (View.set_slice_whole cc0_scratch2 (slotRect n.val h)).le

/-! ## Entering the ring -/

/-- The barrier's tokens, credit and position. -/
def barBag : sProp 𝕄 :=
  iprop(dutyTok ER (barCell (prv c)) 0 true ∗ dutyTok ER (barCell (nxt c)) 0 false ∗ cred (tallyAt (barCell c) () 2) ∗ atPos ER (barCell c) 0 ∅ 0)

theorem wp_enter {α : Type} {Q : α → sProp 𝕄} {k : PUnit → Prog (TpuEff nD τ sig (Elt F) Λ₀ .tc) α} (fk fv : S4x4096x256.Idx → Elt F .bf16) :
    iprop(records kX vX K ∗ levAts L lv ∗ owing c (O₀ c) ∗ barBag c ∗ kPts c (kX c) ∗ vPts c (vX c) ∗ kgAll c fk ∗ vgAll c fv)
      ⊢ iprop(((owing c (owedFrom c 0) ∗ semVal (barCell c) 0 ∗ barPay c ∗ kPts c (kX c) ∗ vPts c (vX c)
              ∗ kgPts c 0 fullShare (gather (keysAt kX c)) ∗ vgPts c 0 fullShare (gather (valsAt vX c)))
            -∗ wp frame (wpE (defs₀ (F := F)) 𝒱r (c : Thread nD τ) none) Set.univ (k ⟨⟩) Q)
          -∗ wp frame (wpE (defs₀ (F := F)) 𝒱r (c : Thread nD τ) none) Set.univ (enter c >>= k) Q) := by
  unfold enter barBag owing kPts vPts
  rw [kgAll_slots, vgAll_slots]
  simp only [semSignalWord, semWaitWord, Prog.lift, Prog.bind_op, Prog.bind_ret, Prog.pure_eq_ret]
  rw [show (⟨k0_dev1 c, k0_dev1_lt c⟩ : Dev nD) = prv c from Fin.ext (k0_dev1_eq c), show (⟨k0_dev2 c, k0_dev2_lt c⟩ : Dev nD) = nxt c from Fin.ext (k0_dev2_eq c)]
  iintro ⟨#HR, #Hlev, ⟨%W, HO⟩, ⟨HtP, HtN, Hcr, Hat⟩, Hk, Hv, ⟨Hk0, Hk1, Hk2, Hk3⟩, Hv0, Hv1, Hv2, Hv3⟩ Hc
  ihave #Ib := (inv_at kX vX K (c, none)) $$ HR
  ihave #Ip := (inv_at kX vX K (prv c, none)) $$ HR
  ihave #In := (inv_at kX vX K (nxt c, none)) $$ HR
  ihave #Mp := (mark_at kX vX K (prv c, none)) $$ HR
  ihave #Mn := (mark_at kX vX K (nxt c, none)) $$ HR
  unfold O₀
  -- the previous device's barrier: it may write slots 1, 2 and 3 here
  iapply (Rounds.wp_signal 𝒱r ER (ringRd kX vX) (c : Thread nD τ) none (dst := (prv c : Thread nD τ)) (sem := barS) (κ := K (prv c, none))
      (d := true) (by rw [duties_bar]; exact Finset.mem_univ _) ((amount_bar kX vX (prv c) true).trans (by decide)) () (O₁ c) rfl)
    $$ [HO HtP Hk1 Hk2 Hk3 Hv1 Hv2 Hv3]
  · isplitr; · iexact Ip
    isplitl [HO]; · iexact HO
    isplitl [HtP]; · iexact HtP
    isplitl [Hk1 Hk2 Hk3 Hv1 Hv2 Hv3]
    · rw [payload_bar_true]; unfold barPay land; rw [nxt_prv]
      isplitl [Hk1 Hv1]
      · isplitl [Hk1]
        · iexists fk; iexact Hk1
        · iexists fv; iexact Hv1
      isplitl [Hk2 Hv2]
      · isplitl [Hk2]
        · iexists fk; iexact Hk2
        · iexists fv; iexact Hv2
      · isplitl [Hk3]
        · iexists fk; iexact Hk3
        · iexists fv; iexact Hv3
    iexact Mp
  iintro HO
  unfold O₁
  -- the next device's barrier
  iapply (Rounds.wp_signal 𝒱r ER (ringRd kX vX) (c : Thread nD τ) none (dst := (nxt c : Thread nD τ)) (sem := barS) (κ := K (nxt c, none))
      (d := false) (by rw [duties_bar]; exact Finset.mem_univ _) ((amount_bar kX vX (nxt c) false).trans (by decide)) () (owedFrom c 0) rfl)
    $$ [HO HtN]
  · isplitr; · iexact In
    isplitl [HO]; · iexact HO
    isplitl [HtN]; · iexact HtN
    isplitr; · rw [payload_bar_false]; iempintro
    iexact Mn
  iintro HO
  -- both neighbours' signals
  iapply (Rounds.wp_wait_rest_token 𝒱r ER (ringRd kX vX) (c : Thread nD τ) none (κ := K (c, none))
      (wpE_semWait_eq 𝒱r (c : Thread nD τ) none Set.univ) (Set.mem_univ _) () (O := owedFrom c 0) (W := W) (R := 0) (m := 0) (T := ∅)
      (by rw [expect_bar]; decide)) $$ [Hcr HO Hat]
  · isplitr; · iexact Ib
    isplitl [Hcr]; · iexact Hcr
    isplitl [HO]; · iexact HO
    isplitr; · iapply (mayWait_bar c); iexact Hlev
    iexact Hat
  iintro ⟨HO, Hat, -, Hpay⟩
  ihave Hp := (Entails.of_eq (rest_bar kX vX c)) $$ Hpay
  icases Hp with ⟨-, Hp⟩
  imod (Rounds.cell_close ER (ringRd kX vX) (Set.mem_univ (K (c, none))) (fun h => h) (R := 0 + 1) (duties_later kX vX (barCell c))) $$ [Hat] with Hz
  · isplitr; · iexact Ib
    iexact Hat
  -- the device's own block, into slot 0
  iapply (wp_load 𝒱r (c : Thread nD τ) none Set.univ (m := kM) (Finset.subset_univ _)) $$ Hk; iintro Hk
  rw [read_k]
  unfold kgPts vgPts
  iapply (wp_load 𝒱r (c : Thread nD τ) none Set.univ (m := kgM) (setOn_kg 0 _)) $$ Hk0; iintro Hk0
  iapply (wp_store 𝒱r (c : Thread nD τ) none Set.univ (m := kgM) (r := slotRect 0 inb_S4x4096x256_S1x4096x256_0_0_0) (Mk := Finset.univ) (kg_access 0 _)) $$ Hk0; iintro Hk0
  iapply (wp_load 𝒱r (c : Thread nD τ) none Set.univ (m := vM) (Finset.subset_univ _)) $$ Hv; iintro Hv
  rw [read_v]
  iapply (wp_load 𝒱r (c : Thread nD τ) none Set.univ (m := vgM) (setOn_vg 0 _)) $$ Hv0; iintro Hv0
  iapply (wp_store 𝒱r (c : Thread nD τ) none Set.univ (m := vgM) (r := slotRect 0 inb_S4x4096x256_S1x4096x256_0_0_0) (Mk := Finset.univ) (vg_access 0 _)) $$ Hv0; iintro Hv0
  iapply Hc
  isplitl [HO]; · iexists _; iexact HO
  isplitl [Hz]; · iexact Hz
  isplitl [Hp]; · iexact Hp
  isplitl [Hk]; · iexact Hk
  isplitl [Hv]; · iexact Hv
  isplitl [Hk0]
  · iapply (Entails.of_eq (pointsTo_congr (ℓ := (c : Thread nD τ).loc cc0_scratch1) (q := fullShare)
      (keysAt_zero kX c ▸ kg_stored (keysAt kX c) 0 inb_S4x4096x256_S1x4096x256_0_0_0 fk))) $$ Hk0
  · iapply (Entails.of_eq (pointsTo_congr (ℓ := (c : Thread nD τ).loc cc0_scratch2) (q := fullShare)
      (valsAt_zero vX c ▸ vg_stored (valsAt vX c) 0 inb_S4x4096x256_S1x4096x256_0_0_0 fv))) $$ Hv0

/-! ## Scaling the queries -/

theorem wp_scale {α : Type} {Q : α → sProp 𝕄} {k : PUnit → Prog (TpuEff nD τ sig (Elt F) Λ₀ .tc) α} (f : S4096x256.Idx → Elt F .bf16) :
    iprop(qPts c (qX c) ∗ qsPts c f)
      ⊢ iprop(((qPts c (qX c) ∗ qsPts c (qsAt qX c)) -∗ wp frame (wpE (defs₀ (F := F)) 𝒱r (c : Thread nD τ) none) Set.univ (k ⟨⟩) Q)
          -∗ wp frame (wpE (defs₀ (F := F)) 𝒱r (c : Thread nD τ) none) Set.univ (scale >>= k) Q) := by
  unfold scale qPts qsPts
  simp only [Prog.lift, Prog.bind_op, Prog.bind_ret, Prog.pure_eq_ret]
  iintro ⟨Hq, Hs⟩ Hc
  iapply (wp_load 𝒱r (c : Thread nD τ) none Set.univ (m := qM) (Finset.subset_univ _)) $$ Hq; iintro Hq
  rw [read_q]
  iapply (wp_load 𝒱r (c : Thread nD τ) none Set.univ (m := qsM) (Finset.subset_univ _)) $$ Hs; iintro Hs
  iapply (wp_store 𝒱r (c : Thread nD τ) none Set.univ (m := qsM) (r := allRows) (Mk := Finset.univ) (Finset.subset_univ _)) $$ Hs; iintro Hs
  rw [write_qs]
  iapply Hc
  isplitl [Hq]; · iexact Hq
  unfold qsAt; iexact Hs

/-! ## The loops -/

/-- A loop of eight trips, by what holds before each. -/
theorem wp_eight (l : Scf.Loop 32) (ok : l.OK) (h8 : l.trips = 8) (body : Fin l.trips → Unit → Prog (TpuEff nD τ sig (Elt F) Λ₀ .tc) Unit) (I : ℕ → sProp 𝕄)
    (hb : ∀ (t : Fin l.trips) (k : Fin 8), t.val = k.val →
      I k.val ⊢ wp frame (wpE (defs₀ (F := F)) 𝒱r (c : Thread nD τ) none) Set.univ (body t ⟨⟩) (fun _ => I (k.val + 1)))
    {α : Type} {Q : α → sProp 𝕄} {k : Unit → Prog (TpuEff nD τ sig (Elt F) Λ₀ .tc) α} :
    I 0 ⊢ iprop((I 8 -∗ wp frame (wpE (defs₀ (F := F)) 𝒱r (c : Thread nD τ) none) Set.univ (k ⟨⟩) Q)
          -∗ wp frame (wpE (defs₀ (F := F)) 𝒱r (c : Thread nD τ) none) Set.univ (Scf.Loop.for l ok ⟨⟩ body >>= k) Q) := by
  iintro H Hc
  iapply (Scf.wp_for_bind frame (wpE (defs₀ (F := F)) 𝒱r (c : Thread nD τ) none) Set.univ l.lb l.ub l.st ok ⟨⟩ body (fun n _ => I n)
    (fun t _ => hb t ⟨t.val, lt_of_lt_of_eq t.isLt h8⟩ rfl)) $$ H
  iintro %u H
  iapply Hc
  rw [← h8]; iexact H

theorem trips1 : k0_t1_loop.trips = 8 := by decide
theorem trips2 : k0_t2_loop.trips = 8 := by decide
theorem trips3 : k0_t3_loop.trips = 8 := by decide
theorem trips4 : k0_t4_loop.trips = 8 := by decide

section Loops
variable (p p' : PosShare TreeShare) (fq : S4096x256.Idx → Elt F .bf16) (G H : Fin 4 → Vec F S1x4096x256 .bf16)
  (l l' : S4096x1.Idx → Elt F .f32) (a a' : S4096x256.Idx → Elt F .f32)

theorem wp_loop0 {α : Type} {Q : α → sProp 𝕄} {k : Unit → Prog (TpuEff nD τ sig (Elt F) Λ₀ .tc) α}
    (hl : ∀ t, k0_pay6 (rowBlk fq t) (G 0) = rowBlk l' t) (ha : ∀ t, k0_pay7 (rowBlk fq t) (G 0) (H 0) = rowBlk a' t) :
    tripState c 0 p p' fq G H l a
      ⊢ iprop((tripState c 0 p p' fq G H l' a' -∗ wp frame (wpE (defs₀ (F := F)) 𝒱r (c : Thread nD τ) none) Set.univ (k ⟨⟩) Q)
          -∗ wp frame (wpE (defs₀ (F := F)) 𝒱r (c : Thread nD τ) none) Set.univ (loop0 >>= k) Q) := by
  have h := wp_eight c k0_t1_loop k0_t1_ok trips1 (fun t _ => firstTrip 0 (slotIn 0) (k0_off1 t) (k0_off2 t) (k0_off1_inb t) (k0_off2_inb t))
    (fun n => tripState c 0 p p' fq G H (partly l' l n) (partly a' a n))
    (fun t k e => wp_firstTrip c k 0 (slotIn 0) _ _ _ _ (e ▸ k0_off1_eq t) (e ▸ k0_off2_eq t) p p' fq G H l l' a a' (hl k) (ha k)) (Q := Q) (k := k)
  rw [partly_start, partly_start, partly_done, partly_done] at h
  exact h

theorem wp_loop1 {α : Type} {Q : α → sProp 𝕄} {k : Unit → Prog (TpuEff nD τ sig (Elt F) Λ₀ .tc) α}
    (hl : ∀ t, k0_pay9 (rowBlk fq t) (G 1) (rowBlk l t) = rowBlk l' t) (ha : ∀ t, k0_pay10 (rowBlk fq t) (G 1) (H 1) (rowBlk a t) = rowBlk a' t) :
    tripState c 1 p p' fq G H l a
      ⊢ iprop((tripState c 1 p p' fq G H l' a' -∗ wp frame (wpE (defs₀ (F := F)) 𝒱r (c : Thread nD τ) none) Set.univ (k ⟨⟩) Q)
          -∗ wp frame (wpE (defs₀ (F := F)) 𝒱r (c : Thread nD τ) none) Set.univ (loop1 >>= k) Q) := by
  have h := wp_eight c k0_t2_loop k0_t2_ok trips2 (fun t _ => addTrip 1 (slotIn 1) (k0_off3 t) (k0_off4 t) (k0_off3_inb t) (k0_off4_inb t) k0_pay9 k0_pay10)
    (fun n => tripState c 1 p p' fq G H (partly l' l n) (partly a' a n))
    (fun t k e => wp_addTrip c k 1 (slotIn 1) _ _ _ _ (e ▸ k0_off3_eq t) (e ▸ k0_off4_eq t) _ _ p p' fq G H l l' a a' (hl k) (ha k)) (Q := Q) (k := k)
  rw [partly_start, partly_start, partly_done, partly_done] at h
  exact h

theorem wp_loop2 {α : Type} {Q : α → sProp 𝕄} {k : Unit → Prog (TpuEff nD τ sig (Elt F) Λ₀ .tc) α}
    (hl : ∀ t, k0_pay12 (rowBlk fq t) (G 2) (rowBlk l t) = rowBlk l' t) (ha : ∀ t, k0_pay13 (rowBlk fq t) (G 2) (H 2) (rowBlk a t) = rowBlk a' t) :
    tripState c 2 p p' fq G H l a
      ⊢ iprop((tripState c 2 p p' fq G H l' a' -∗ wp frame (wpE (defs₀ (F := F)) 𝒱r (c : Thread nD τ) none) Set.univ (k ⟨⟩) Q)
          -∗ wp frame (wpE (defs₀ (F := F)) 𝒱r (c : Thread nD τ) none) Set.univ (loop2 >>= k) Q) := by
  have h := wp_eight c k0_t3_loop k0_t3_ok trips3 (fun t _ => addTrip 2 (slotIn 2) (k0_off5 t) (k0_off6 t) (k0_off5_inb t) (k0_off6_inb t) k0_pay12 k0_pay13)
    (fun n => tripState c 2 p p' fq G H (partly l' l n) (partly a' a n))
    (fun t k e => wp_addTrip c k 2 (slotIn 2) _ _ _ _ (e ▸ k0_off5_eq t) (e ▸ k0_off6_eq t) _ _ p p' fq G H l l' a a' (hl k) (ha k)) (Q := Q) (k := k)
  rw [partly_start, partly_start, partly_done, partly_done] at h
  exact h

theorem wp_loop3 {α : Type} {Q : α → sProp 𝕄} {k : Unit → Prog (TpuEff nD τ sig (Elt F) Λ₀ .tc) α}
    (o o' : S4096x256.Idx → Elt F .f32) (ho : ∀ t, k0_pay1 (rowBlk fq t) (G 3) (H 3) (rowBlk a t) (rowBlk l t) = rowBlk o' t) :
    iprop(tripState c 3 p p' fq G H l a ∗ outPts c o)
      ⊢ iprop(((tripState c 3 p p' fq G H l a ∗ outPts c o') -∗ wp frame (wpE (defs₀ (F := F)) 𝒱r (c : Thread nD τ) none) Set.univ (k ⟨⟩) Q)
          -∗ wp frame (wpE (defs₀ (F := F)) 𝒱r (c : Thread nD τ) none) Set.univ (loop3 >>= k) Q) := by
  have h := wp_eight c k0_t4_loop k0_t4_ok trips4 (fun t _ => lastTrip 3 (slotIn 3) (k0_off7 t) (k0_off8 t) (k0_off7_inb t) (k0_off8_inb t))
    (fun n => iprop(tripState c 3 p p' fq G H l a ∗ outPts c (partly o' o n)))
    (fun t k e => wp_lastTrip c k 3 (slotIn 3) _ _ _ _ (e ▸ k0_off7_eq t) (e ▸ k0_off8_eq t) p p' fq G H l a o o' (ho k)) (Q := Q) (k := k)
  rw [partly_start, partly_done] at h
  exact h

end Loops

end Cert.KernelIdeal.Ring

end
-- ==== Proof.Ideal.Whole.lean ====
/-
# The whole body on one device

The stages run one after the other: each hop lends its slot's left half to the two copies while the loop reads the right
half, and the waits bring the half back and the next slot in.
-/
module

public import proofs.«01_k».proof.Proof.Ideal.Body

@[expose] public section

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (qX kX vX : Dev nD → Vec F S4096x256 .bf16) (K : CellId → ℕ) (c : Dev nD)

/-- What a device holds for hop `h`: the tokens it pays with, the credits of its receiving ends, its four positions. -/
def hopBag (h : Fin 3) : sProp 𝕄 :=
  iprop(hopToks c h ∗ (cred (tallyAt (xCell c (1, h)) () N) ∗ cred (tallyAt (xCell c (3, h)) () N))
    ∗ (atPos ER (xCell c (0, h)) 0 ∅ 0 ∗ atPos ER (xCell c (1, h)) 0 ∅ 0 ∗ atPos ER (xCell c (2, h)) 0 ∅ 0 ∗ atPos ER (xCell c (3, h)) 0 ∅ 0))

/-- A slot of both gathered buffers. -/
def slotPts (n : Fin 4) (q : PosShare TreeShare) : sProp 𝕄 :=
  iprop(kgPts c n q (gather (keysAt kX c)) ∗ vgPts c n q (gather (valsAt vX c)))

/-- The arrays the loops work on. -/
def work (fq : S4096x256.Idx → Elt F .bf16) (l : S4096x1.Idx → Elt F .f32) (a : S4096x256.Idx → Elt F .f32) : sProp 𝕄 :=
  iprop(qsPts c fq ∗ lPts c l ∗ accPts c a)

theorem trip_split (n : Fin 4) (q : PosShare TreeShare) (fq) (l) (a) :
    tripState c n q q fq (keysAt kX c) (valsAt vX c) l a ⊣⊢ iprop(slotPts kX vX c n q ∗ work c fq l a) := by
  unfold tripState slotPts work qsPts lPts accPts kgPts vgPts
  constructor
  · iintro ⟨H1, H2, H3, H4, H5⟩
    isplitl [H2 H3]
    · isplitl [H2] <;> iassumption
    isplitl [H1]; · iexact H1
    isplitl [H4] <;> iassumption
  · iintro ⟨⟨H2, H3⟩, H1, H4, H5⟩
    isplitl [H1]; · iexact H1
    isplitl [H2]; · iexact H2
    isplitl [H3]; · iexact H3
    isplitl [H4] <;> iassumption

/-- One hop with its loop: the copies started, the loop's trips on the right half of the slot (`stageP` to `stageQ`), and the four ends waited for. -/
theorem wp_round (h : Fin 3) (n n' : Fin 4) (hn : n = h.castSucc) (hn' : n' = h.succ) (o o' : ℕ) (ho : o = h.val) (ho' : o' = h.val + 1)
    (dK dV : Dev nD) (hK : dK = nxt c) (hV : dV = nxt c) (P P' : sProp 𝕄) (p : Prog (TpuEff nD τ sig (Elt F) Λ₀ .tc) Unit)
    (hp : ∀ {α : Type} {Q : α → sProp 𝕄} {k : Unit → Prog (TpuEff nD τ sig (Elt F) Λ₀ .tc) α},
      iprop(slotPts kX vX c n fullShare.right ∗ P)
        ⊢ iprop((iprop(slotPts kX vX c n fullShare.right ∗ P') -∗ wp frame (wpE (defs₀ (F := F)) 𝒱r (c : Thread nD τ) none) Set.univ (k ⟨⟩) Q)
          -∗ wp frame (wpE (defs₀ (F := F)) 𝒱r (c : Thread nD τ) none) Set.univ (p >>= k) Q))
    {α : Type} {Q : α → sProp 𝕄} {k : PUnit → Prog (TpuEff nD τ sig (Elt F) Λ₀ .tc) α} :
    iprop(records kX vX K ∗ levAts L lv ∗ slotPts kX vX c n fullShare ∗ land (nxt c) h ∗ owing c (owedFrom c o) ∗ hopBag c h ∗ P)
      ⊢ iprop((iprop(slotPts kX vX c n fullShare ∗ slotPts kX vX c n' fullShare ∗ owing c (owedFrom c o') ∗ zeros c h ∗ P')
            -∗ wp frame (wpE (defs₀ (F := F)) 𝒱r (c : Thread nD τ) none) Set.univ (k ⟨⟩) Q)
          -∗ wp frame (wpE (defs₀ (F := F)) 𝒱r (c : Thread nD τ) none) Set.univ (hop h dK dV >>= fun _ => p >>= fun _ => drain h >>= k) Q) := by
  subst hn hn' ho ho'
  unfold slotPts hopBag
  iintro ⟨#HR, #Hlev, ⟨Hk, Hv⟩, Hland, HO, ⟨Ht, ⟨Hc1, Hc3⟩, Hat⟩, HP⟩ Hc
  iapply (wp_hop kX vX K c h dK dV hK hV) $$ [Hk Hv Hland HO Ht]
  · isplitr; · iexact HR
    unfold hopPre
    isplitl [Hk]; · iexact Hk
    isplitl [Hv]; · iexact Hv
    isplitl [Hland]; · iexact Hland
    isplitl [HO] <;> iassumption
  unfold hopPost
  iintro ⟨HkR, HvR, Hc0, Hc2, HO⟩
  iapply hp $$ [HkR HvR HP]
  · unfold slotPts
    isplitl [HkR HvR]
    · isplitl [HkR] <;> iassumption
    iexact HP
  unfold slotPts
  iintro ⟨⟨HkR, HvR⟩, HP⟩
  iapply (wp_drain kX vX K c h) $$ [HO Hc0 Hc1 Hc2 Hc3 Hat]
  · isplitr; · iexact HR
    isplitr; · iexact Hlev
    unfold drainPre
    isplitl [HO]; · iexact HO
    isplitl [Hc0 Hc1 Hc2 Hc3]
    · isplitl [Hc0]; · iexact Hc0
      isplitl [Hc1]; · iexact Hc1
      isplitl [Hc2] <;> iassumption
    iexact Hat
  unfold drainPost
  iintro ⟨HO, Hz, HkL, HvL, Hkn, Hvn⟩
  iapply Hc
  isplitl [HkL HkR HvL HvR]
  · isplitl [HkL HkR]
    · iapply (kg_halves c h.castSucc _).2
      isplitl [HkL] <;> iassumption
    · iapply (vg_halves c h.castSucc _).2
      isplitl [HvL] <;> iassumption
  isplitl [Hkn Hvn]
  · isplitl [Hkn] <;> iassumption
  isplitl [HO]; · iexact HO
  isplitl [Hz] <;> iassumption

/-- What the body starts from, besides the records and levels: -/
def bodyPre (fo : S4096x256.Idx → Elt F .f32) : sProp 𝕄 :=
  iprop(owing c (O₀ c) ∗ barBag c ∗ hopBag c 0 ∗ hopBag c 1 ∗ hopBag c 2
    ∗ ((∃ f, qsPts c f) ∗ (∃ f, kgAll c f) ∗ (∃ f, vgAll c f) ∗ (∃ f, lPts c f) ∗ ∃ f, accPts c f)
    ∗ qPts c (qX c) ∗ kPts c (kX c) ∗ vPts c (vX c) ∗ outPts c fo)

/-- and what it ends with. -/
def bodyPost : sProp 𝕄 :=
  iprop(owing c 0 ∗ (semVal (barCell c) 0 ∗ zeros c 0 ∗ zeros c 1 ∗ zeros c 2)
    ∗ ((∃ f, qsPts c f) ∗ (∃ f, kgAll c f) ∗ (∃ f, vgAll c f) ∗ (∃ f, lPts c f) ∗ ∃ f, accPts c f)
    ∗ qPts c (qX c) ∗ kPts c (kX c) ∗ vPts c (vX c) ∗ outPts c (resAt qX kX vX c))

theorem wp_stages (fo : S4096x256.Idx → Elt F .f32) (Kt : PUnit → sProp 𝕄) :
    iprop((records kX vX K ∗ levAts L lv ∗ bodyPre qX kX vX c fo) ∗ (bodyPost qX kX vX c -∗ Kt ⟨⟩))
      ⊢ wp frame (wpE (defs₀ (F := F)) 𝒱r (c : Thread nD τ) none) Set.univ stages Kt := by
  unfold stages bodyPre
  simp only [Prog.lift, Prog.bind_op, Prog.bind_ret, Prog.pure_eq_ret, wp_deviceId]
  iintro ⟨⟨#HR, #Hlev, HO, Hb, Hh0, Hh1, Hh2, ⟨⟨%fs, Hqs⟩, ⟨%fk, Hkg⟩, ⟨%fv, Hvg⟩, ⟨%fl, Hl⟩, ⟨%fa, Ha⟩⟩, Hq, Hk, Hv, Ho⟩, Hc⟩
  iapply (wp_enter kX vX K c fk fv) $$ [HO Hb Hk Hv Hkg Hvg]
  · isplitr; · iexact HR
    isplitr; · iexact Hlev
    isplitl [HO]; · iexact HO
    isplitl [Hb]; · iexact Hb
    isplitl [Hk]; · iexact Hk
    isplitl [Hv]; · iexact Hv
    isplitl [Hkg] <;> iassumption
  unfold barPay
  iintro ⟨HO, Hzb, ⟨Hl0, Hl1, Hl2⟩, Hk, Hv, Hk0, Hv0⟩
  -- the first hop, the queries scaled before its loop
  rw [← Prog.bind_assoc scale]
  iapply (wp_round kX vX K c 0 0 1 rfl rfl 0 1 rfl rfl ⟨k0_dev3 c, k0_dev3_lt c⟩ ⟨k0_dev4 c, k0_dev4_lt c⟩ (Fin.ext (k0_dev3_eq c)) (Fin.ext (k0_dev4_eq c))
      iprop(qPts c (qX c) ∗ work c fs fl fa) iprop(qPts c (qX c) ∗ work c (qsAt qX c) (l0 qX kX c) (a0 qX kX vX c)) (scale >>= fun _ => loop0)
      (by
        intro α Q k
        rw [Prog.bind_assoc]
        unfold work
        iintro ⟨Hs, Hq, Hqs, Hl, Ha⟩ Hc
        iapply (wp_scale qX c fs) $$ [Hq Hqs]
        · isplitl [Hq] <;> iassumption
        iintro ⟨Hq, Hqs⟩
        iapply (wp_loop0 c fullShare.right fullShare.right (qsAt qX c) (keysAt kX c) (valsAt vX c) fl (l0 qX kX c) fa (a0 qX kX vX c)
          (rows_l0 qX kX c) (rows_a0 qX kX vX c)) $$ [Hs Hqs Hl Ha]
        · iapply (trip_split kX vX c 0 fullShare.right _ _ _).2
          unfold work
          isplitl [Hs]; · iexact Hs
          isplitl [Hqs]; · iexact Hqs
          isplitl [Hl] <;> iassumption
        iintro H
        ihave H2 := (trip_split kX vX c 0 fullShare.right _ _ _).1 $$ H
        icases H2 with ⟨Hs, Hw⟩
        iapply Hc
        isplitl [Hs]; · iexact Hs
        isplitl [Hq]; · iexact Hq
        unfold work
        iexact Hw)) $$ [HO Hl0 Hh0 Hk0 Hv0 Hq Hqs Hl Ha]
  · isplitr; · iexact HR
    isplitr; · iexact Hlev
    isplitl [Hk0 Hv0]; · unfold slotPts; isplitl [Hk0] <;> iassumption
    isplitl [Hl0]; · iexact Hl0
    isplitl [HO]; · iexact HO
    isplitl [Hh0]; · iexact Hh0
    isplitl [Hq]; · iexact Hq
    unfold work
    isplitl [Hqs]; · iexact Hqs
    isplitl [Hl] <;> iassumption
  iintro ⟨Hs0, Hs1, HO, Hz0, Hq, Hw⟩
  -- the second
  iapply (wp_round kX vX K c 1 1 2 rfl rfl 1 2 rfl rfl ⟨k0_dev5 c, k0_dev5_lt c⟩ ⟨k0_dev6 c, k0_dev6_lt c⟩ (Fin.ext (k0_dev5_eq c)) (Fin.ext (k0_dev6_eq c))
      (work c (qsAt qX c) (l0 qX kX c) (a0 qX kX vX c)) (work c (qsAt qX c) (l1 qX kX c) (a1 qX kX vX c)) loop1
      (by
        intro α Q k
        iintro H Hc
        iapply (wp_loop1 c fullShare.right fullShare.right (qsAt qX c) (keysAt kX c) (valsAt vX c) (l0 qX kX c) (l1 qX kX c) (a0 qX kX vX c) (a1 qX kX vX c)
          (rows_l1 qX kX c) (rows_a1 qX kX vX c)) $$ [H]
        · iapply (trip_split kX vX c 1 fullShare.right _ _ _).2; iexact H
        iintro H
        iapply Hc
        iapply (trip_split kX vX c 1 fullShare.right _ _ _).1; iexact H)) $$ [HO Hl1 Hh1 Hs1 Hw]
  · isplitr; · iexact HR
    isplitr; · iexact Hlev
    isplitl [Hs1]; · iexact Hs1
    isplitl [Hl1]; · iexact Hl1
    isplitl [HO]; · iexact HO
    isplitl [Hh1] <;> iassumption
  iintro ⟨Hs1, Hs2, HO, Hz1, Hw⟩
  -- the third
  iapply (wp_round kX vX K c 2 2 3 rfl rfl 2 3 rfl rfl ⟨k0_dev7 c, k0_dev7_lt c⟩ ⟨k0_dev8 c, k0_dev8_lt c⟩ (Fin.ext (k0_dev7_eq c)) (Fin.ext (k0_dev8_eq c))
      (work c (qsAt qX c) (l1 qX kX c) (a1 qX kX vX c)) (work c (qsAt qX c) (l2 qX kX c) (a2 qX kX vX c)) loop2
      (by
        intro α Q k
        iintro H Hc
        iapply (wp_loop2 c fullShare.right fullShare.right (qsAt qX c) (keysAt kX c) (valsAt vX c) (l1 qX kX c) (l2 qX kX c) (a1 qX kX vX c) (a2 qX kX vX c)
          (rows_l2 qX kX c) (rows_a2 qX kX vX c)) $$ [H]
        · iapply (trip_split kX vX c 2 fullShare.right _ _ _).2; iexact H
        iintro H
        iapply Hc
        iapply (trip_split kX vX c 2 fullShare.right _ _ _).1; iexact H)) $$ [HO Hl2 Hh2 Hs2 Hw]
  · isplitr; · iexact HR
    isplitr; · iexact Hlev
    isplitl [Hs2]; · iexact Hs2
    isplitl [Hl2]; · iexact Hl2
    isplitl [HO]; · iexact HO
    isplitl [Hh2] <;> iassumption
  iintro ⟨Hs2, Hs3, HO, Hz2, Hw⟩
  -- the last block and the division
  iapply (wp_loop3 c fullShare fullShare (qsAt qX c) (keysAt kX c) (valsAt vX c) (l2 qX kX c) (a2 qX kX vX c) fo (resAt qX kX vX c)
    (rows_res qX kX vX c)) $$ [Hs3 Hw Ho]
  · isplitr [Ho]
    · iapply (trip_split kX vX c 3 fullShare _ _ _).2
      isplitl [Hs3] <;> iassumption
    iexact Ho
  iintro ⟨H, Ho⟩
  ihave H2 := (trip_split kX vX c 3 fullShare _ _ _).1 $$ H
  unfold work slotPts
  icases H2 with ⟨⟨Hk3, Hv3⟩, Hqs, Hl, Ha⟩
  icases Hs0 with ⟨Hk0, Hv0⟩
  icases Hs1 with ⟨Hk1, Hv1⟩
  icases Hs2 with ⟨Hk2, Hv2⟩
  rw [wp_ret]; imodintro
  iapply Hc
  unfold bodyPost
  isplitl [HO]; · iexact HO
  isplitl [Hzb Hz0 Hz1 Hz2]
  · isplitl [Hzb]; · iexact Hzb
    isplitl [Hz0]; · iexact Hz0
    isplitl [Hz1] <;> iassumption
  isplitl [Hqs Hk0 Hk1 Hk2 Hk3 Hv0 Hv1 Hv2 Hv3 Hl Ha]
  · isplitl [Hqs]; · iexists _; iexact Hqs
    isplitl [Hk0 Hk1 Hk2 Hk3]
    · iexists (gather (keysAt kX c)); rw [kgAll_slots]
      isplitl [Hk0]; · iexact Hk0
      isplitl [Hk1]; · iexact Hk1
      isplitl [Hk2] <;> iassumption
    isplitl [Hv0 Hv1 Hv2 Hv3]
    · iexists (gather (valsAt vX c)); rw [vgAll_slots]
      isplitl [Hv0]; · iexact Hv0
      isplitl [Hv1]; · iexact Hv1
      isplitl [Hv2] <;> iassumption
    isplitl [Hl]; · iexists _; iexact Hl
    iexists _; iexact Ha
  isplitl [Hq]; · iexact Hq
  isplitl [Hk]; · iexact Hk
  isplitl [Hv] <;> iassumption

end Cert.KernelIdeal.Ring

end
-- ==== Proof.Ideal.Deal.lean ====
/-
# Dealing the ring's cells out at the launch

Every device's thirteen cells get their invariants at once. The duty tokens go to the devices that pay: a sending end's
token stays, a receiving end's goes one device back, the barrier's two go to the two neighbours. The launch books the
credits: two barrier units and a slot's credit for each of the six receiving ends.
-/
module

public import proofs.«01_k».proof.Proof.Ideal.Whole

@[expose] public section

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (kX vX : Dev nD → Vec F S4096x256 .bf16)

/-! ## Iterated conjunctions -/

theorem sep_option {I : Type} [Fintype I] (Φ : Option I → sProp 𝕄) :
    bigSep Finset.univ Φ = iprop(Φ none ∗ bigSep Finset.univ fun i => Φ (some i)) := by
  rw [bigSep_univ_equiv (Equiv.optionEquivSumPUnit.{0, 0} I).symm Φ, bigSep_univ_sum,
    bigSep_univ_eq_bigSepL (I := PUnit) [PUnit.unit] rfl (List.nodup_singleton _), bigSepL_singleton]
  exact BI.equiv_iff.mp ⟨Idealize.SL.BI.sep_comm, Idealize.SL.BI.sep_comm⟩

/-- Along an injection, the others dropped. -/
theorem sep_along {I J : Type} [Fintype I] [Fintype J] [DecidableEq J] (e : I ↪ J) (Φ : J → sProp 𝕄) :
    bigSep Finset.univ Φ ⊢ bigSep Finset.univ fun i => Φ (e i) :=
  (bigSep_subset (Finset.subset_univ (Finset.univ.map e))).trans (Entails.of_eq (bigSep_map e))

theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_three (Φ : Fin 3 → sProp 𝕄) : bigSep Finset.univ Φ = iprop(Φ 0 ∗ Φ 1 ∗ Φ 2) :=
  bigSep_univ_eq_bigSepL [0, 1, 2] (by decide) (by decide) Φ
theorem sep_bool (Φ : Bool → sProp 𝕄) : bigSep Finset.univ Φ = iprop(Φ false ∗ Φ true) :=
  bigSep_univ_eq_bigSepL [false, true] (by decide) (by decide) Φ

/-! ## The cells and tokens as sets -/

theorem xCell_iff {c c' : Dev nD} {x y : Xfer} : xCell c x = xCell c' y ↔ c = c' ∧ x = y :=
  ⟨fun h => ⟨congrArg (fun g : GSem nD τ sig => g.1.1) h, xsem_inj (SemLoc.dma.inj (congrArg Prod.snd h))⟩, fun h => by rw [h.1, h.2]⟩
theorem barCell_iff {c c' : Dev nD} : barCell c = barCell c' ↔ c = c' :=
  ⟨fun h => congrArg (fun g : GSem nD τ sig => g.1.1) h, fun h => by rw [h]⟩
theorem bar_ne_x (c c' : Dev nD) (x : Xfer) : barCell c ≠ xCell c' x :=
  fun h => by have := congrArg Prod.snd h; simp at this

theorem cellAt_injective : Function.Injective cellAt := by
  rintro ⟨c, _ | x⟩ ⟨c', _ | y⟩ h
  · obtain rfl : c = c' := barCell_iff.mp h
    rfl
  · exact absurd h (bar_ne_x c c' y)
  · exact absurd h.symm (bar_ne_x c' c x)
  · obtain ⟨rfl, rfl⟩ : c = c' ∧ x = y := xCell_iff.mp h
    rfl

/-- A duty token: a device's barrier has two, each end of a copy one. -/
abbrev TokId : Type := Dev nD × (Bool ⊕ Xfer)
def tokAt (p : TokId) : GSem nD τ sig × ℕ × Bool :=
  match p.2 with
  | .inl b => (barCell p.1, 0, b)
  | .inr x => (xCell p.1 x, 0, false)

theorem tokAt_injective : Function.Injective tokAt := by
  rintro ⟨c, b | x⟩ ⟨c', b' | y⟩ h
  · obtain rfl : c = c' := barCell_iff.mp (congrArg Prod.fst h)
    obtain rfl : b = b' := congrArg (fun z : GSem nD τ sig × ℕ × Bool => z.2.2) h
    rfl
  · exact absurd (congrArg Prod.fst h) (bar_ne_x c c' y)
  · exact absurd (congrArg Prod.fst h).symm (bar_ne_x c' c x)
  · obtain ⟨rfl, rfl⟩ : c = c' ∧ x = y := xCell_iff.mp (congrArg Prod.fst h)
    rfl

def ringCells : Finset (GSem nD τ sig) := Finset.univ.map ⟨cellAt, cellAt_injective⟩
def ringToks : Finset (GSem nD τ sig × ℕ × Bool) := Finset.univ.map ⟨tokAt, tokAt_injective⟩

/-- The launch's ghost element: the pipeline's and the ring's. -/
def ghost₀ : Ghost :=
  (initOf (Pipeline.cells cfgs cellOf_inj) (Pipeline.launchToks cfgs cellOf_inj), initOf ringCells ringToks)

/-! ## One device's share before dealing -/

section Dealt
variable (c : Dev nD)

def states : sProp 𝕄 := bigSep Finset.univ fun k : Option Xfer => roundState ER (ringRd kX vX) (cellAt (c, k)) 0
def places : sProp 𝕄 := bigSep Finset.univ fun k : Option Xfer => atPos ER (cellAt (c, k)) 0 ∅ 0
def marks : sProp 𝕄 := bigSep Finset.univ fun k : Option Xfer => reached ER (cellAt (c, k)) 0
def xTok (x : Xfer) : sProp 𝕄 := dutyTok ER (xCell c x) 0 false
def ownToks : sProp 𝕄 :=
  iprop((dutyTok ER (barCell c) 0 false ∗ dutyTok ER (barCell c) 0 true) ∗ bigSep Finset.univ fun x : Xfer => xTok c x)
/-- What the launch element gives a device. -/
def dealt : sProp 𝕄 := iprop(states kX vX c ∗ (places c ∗ marks c) ∗ ownToks c)

/-- The tokens a device pays with. -/
def payToks : sProp 𝕄 :=
  iprop((dutyTok ER (barCell (prv c)) 0 true ∗ dutyTok ER (barCell (nxt c)) 0 false) ∗ bigSep Finset.univ fun h : Fin 3 => hopToks c h)
/-- What a device's body starts from, of the ring's ghost state. -/
def started : sProp 𝕄 := iprop(∃ K, records kX vX K ∗ places c ∗ payToks c)

/-- A device's thirteen counters at zero. -/
def counters : sProp 𝕄 := bigSep Finset.univ fun k : Option Xfer => semVal (cellAt (c, k)) 0
end Dealt

theorem fund_ring : BI.own (ER (initOf ringCells ringToks)) ⊢ (|==> bigSep Finset.univ (dealt kX vX) : sProp 𝕄) := by
  have hX (Φ : GSem nD τ sig → sProp 𝕄) :
      bigSep ringCells Φ = bigSep Finset.univ fun c : Dev nD => bigSep Finset.univ fun k : Option Xfer => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    refine bigSep_congr fun c _ => ?_
    rw [bigSep_univ_sum, sep_bool]
    rfl
  iintro HX
  imod (Rounds.fund ER (ringRd kX vX) ringCells ringToks) $$ HX with ⟨Hst, Hr, Hat, Htok⟩
  imodintro
  unfold dealt states places marks
  simp only [bigSep_sep']
  isplitl [Hst]
  · iapply (Entails.of_eq (hX fun g => roundState ER (ringRd kX vX) g 0)); iexact Hst
  isplitl [Hat Hr]
  · isplitl [Hat]
    · iapply (Entails.of_eq (hX fun g => atPos ER g 0 ∅ 0)); iexact Hat
    · iapply (Entails.of_eq (hX fun g => reached ER g 0)); iexact Hr
  iapply (Entails.of_eq hT); iexact Htok

/-! ## The counters -/

/-- The semaphores the kernel owns. -/
abbrev ownSem : Xfer → SemLoc sig := fun x => .dma (xsem x)

theorem own_counters (c : Dev nD) :
    (counters c : sProp 𝕄) = iprop(unscopedSems0 c ∗ Pipeline.ownSems0 (Ix := Unit) (Name := ℕ) (U := Ghost) (Lvl := ℕ) (Val := Elt F) (τ := τ) ownSem c) := by
  have hu : (unscopedSems0 c : sProp 𝕄) = semVal (barCell c) 0 := by
    unfold unscopedSems0; rw [bigSep_eq_bigSepL_of_eq [SemLoc.reg barS] (by decide) (by decide)]; rfl
  unfold counters
  rw [sep_option, hu]
  rfl

theorem zeros_counters (c : Dev nD) :
    (iprop(semVal (barCell c) 0 ∗ zeros c 0 ∗ zeros c 1 ∗ zeros c 2) : sProp 𝕄) ⊢ counters c := by
  unfold counters
  rw [sep_option, bigSep_univ_prod, sep_four, sep_three, sep_three, sep_three, sep_three]
  unfold zeros
  iintro ⟨Hb, ⟨H00, H10, H20, H30⟩, ⟨H01, H11, H21, H31⟩, H02, H12, H22, H32⟩
  isplitl [Hb]; · iexact Hb
  isplitl [H00 H01 H02]
  · isplitl [H00]; · iexact H00
    isplitl [H01]; · iexact H01
    iexact H02
  isplitl [H10 H11 H12]
  · isplitl [H10]; · iexact H10
    isplitl [H11]; · iexact H11
    iexact H12
  isplitl [H20 H21 H22]
  · isplitl [H20]; · iexact H20
    isplitl [H21]; · iexact H21
    iexact H22
  isplitl [H30]; · iexact H30
  isplitl [H31]; · iexact H31
  iexact H32

/-! ## The global step -/

/-- A device's cells get their invariants. -/
theorem device_cells (c : Dev nD) :
    (iprop(counters c ∗ states kX vX c) : sProp 𝕄)
      ⊢ |={Set.univ}=> bigSep Finset.univ fun k : Option Xfer => iprop(∃ κ : ℕ, cellInv ER (ringRd kX vX) κ (cellAt (c, k))) := by
  unfold counters states
  rw [← bigSep_sep']
  exact (bigSep_mono fun k _ => (Rounds.body_intro ER (ringRd kX vX) (cellAt (c, k))).trans inv_alloc).trans (bigSep_fupd _ _)

/-- The tokens go where they are paid. -/
theorem toks_round : (bigSep Finset.univ fun c : Dev nD => (ownToks c : sProp 𝕄)) ⊢ bigSep Finset.univ fun c : Dev nD => payToks c := by
  have e1 : (bigSep Finset.univ fun c : Dev nD => (bigSep Finset.univ fun x : Xfer => xTok c x : sProp 𝕄))
      = bigSep Finset.univ fun c : Dev nD => bigSep Finset.univ fun h : Fin 3 => hopToks c h := by
    have hs : ∀ e : Fin 4, (bigSep Finset.univ fun c : Dev nD => (bigSep Finset.univ fun h : Fin 3 => xTok c (e, h) : sProp 𝕄))
        = bigSep Finset.univ fun c : Dev nD => bigSep Finset.univ fun h : Fin 3 => xTok (nxt c) (e, h) :=
      fun e => bigSep_univ_equiv ring _
    have hl : (bigSep Finset.univ fun c : Dev nD => (bigSep Finset.univ fun x : Xfer => xTok c x : sProp 𝕄))
        = iprop((bigSep Finset.univ fun c : Dev nD => bigSep Finset.univ fun h : Fin 3 => xTok c (0, h))
          ∗ (bigSep Finset.univ fun c : Dev nD => bigSep Finset.univ fun h : Fin 3 => xTok c (1, h))
          ∗ (bigSep Finset.univ fun c : Dev nD => bigSep Finset.univ fun h : Fin 3 => xTok c (2, h))
          ∗ (bigSep Finset.univ fun c : Dev nD => bigSep Finset.univ fun h : Fin 3 => xTok c (3, h))) := by
      rw [← bigSep_sep', ← bigSep_sep', ← bigSep_sep']
      exact bigSep_congr fun c _ => by rw [bigSep_univ_prod, sep_four]
    rw [hl, hs 1, hs 3, ← bigSep_sep', ← bigSep_sep', ← bigSep_sep']
    refine bigSep_congr fun c _ => ?_
    rw [← bigSep_sep', ← bigSep_sep', ← bigSep_sep']
    rfl
  unfold ownToks payToks
  rw [bigSep_sep', bigSep_sep', bigSep_sep', bigSep_sep', e1,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3⟩
  isplitl [H1 H2]
  · isplitl [H2]; · iexact H2
    iexact H1
  iexact H3

theorem start_all :
    (bigSep Finset.univ fun c : Dev nD => iprop((bigSep Finset.univ fun k : Option Xfer => iprop(∃ κ : ℕ, cellInv ER (ringRd kX vX) κ (cellAt (c, k))))
        ∗ (places c ∗ marks c) ∗ ownToks c) : sProp 𝕄)
      ⊢ bigSep Finset.univ (started kX vX) := by
  have hm : (bigSep Finset.univ fun c : Dev nD => (marks c : sProp 𝕄)) = bigSep (Finset.univ : Finset CellId) fun p => reached ER (cellAt p) 0 :=
    (bigSep_univ_prod (fun p : CellId => (reached ER (cellAt p) 0 : sProp 𝕄))).symm
  rw [bigSep_sep', bigSep_sep', bigSep_sep', hm, ← bigSep_univ_prod (fun p : CellId => iprop(∃ κ : ℕ, cellInv ER (ringRd kX vX) κ (cellAt p)))]
  iintro ⟨HI, ⟨Hat, #HR⟩, Htok⟩
  ihave HK := (BI.bigSep_exists_pi Finset.univ (fun (p : CellId) (κ : ℕ) => (cellInv ER (ringRd kX vX) κ (cellAt p) : sProp 𝕄))) $$ HI
  icases HK with ⟨%K, #HI⟩
  ihave Htk := (toks_round (F := F)) $$ Htok
  have step : ∀ c ∈ (Finset.univ : Finset (Dev nD)), iprop(records kX vX K ∗ places c ∗ payToks c) ⊢ started (F := F) kX vX c := by
    intro c _
    unfold started
    iintro H
    iexists K
    iexact H
  iapply (BI.bigSep_with_persistent (R := records kX vX K) step)
  isplitr
  · unfold records; isplitl; · iexact HI
    iexact HR
  · rw [bigSep_sep']
    isplitl [Hat] <;> iassumption

theorem deal_one (c : Dev nD) :
    (iprop(Pipeline.ownSems0 (Ix := Unit) (Name := ℕ) (U := Ghost) (Lvl := ℕ) (Val := Elt F) (τ := τ) ownSem c ∗ unscopedSems0 c ∗ dealt kX vX c) : sProp 𝕄)
      ⊢ |={Set.univ}=> iprop((bigSep Finset.univ fun k : Option Xfer => iprop(∃ κ : ℕ, cellInv ER (ringRd kX vX) κ (cellAt (c, k))))
        ∗ (places c ∗ marks c) ∗ ownToks c) := by
  unfold dealt
  iintro ⟨Hos, Hus, Hst, Hrest⟩
  imod (device_cells kX vX c) $$ [Hos Hus Hst] with Hinv
  · isplitl [Hos Hus]
    · rw [own_counters]; isplitl [Hus] <;> iassumption
    iexact Hst
  imodintro
  isplitl [Hinv] <;> iassumption

theorem deal_all :
    (bigSep Finset.univ fun c => iprop(Pipeline.ownSems0 (Ix := Unit) (Name := ℕ) (U := Ghost) (Lvl := ℕ) (Val := Elt F) (τ := τ) ownSem c ∗ unscopedSems0 c ∗ dealt kX vX c) : sProp 𝕄)
      ⊢ |={Set.univ}=> bigSep Finset.univ (started kX vX) :=
  ((bigSep_mono fun c _ => deal_one kX vX c).trans (bigSep_fupd _ _)).trans (BI.fupd_mono (start_all kX vX))

/-! ## The launch's credits -/

theorem owedHop_bar (d c : Dev nD) (h : Fin 3) : owedHop d h (barCell c) () = 0 := by
  unfold owedHop
  rw [Pi.add_apply, Finsupp.add_apply, tallyAt_apply, tallyAt_apply, if_neg (fun h => bar_ne_x _ _ _ h.1), if_neg (fun h => bar_ne_x _ _ _ h.1)]
theorem owedHop_x (d c : Dev nD) (h h' : Fin 3) (e : Fin 4) (he : e = 1 ∨ e = 3) :
    owedHop d h (xCell c (e, h')) () = if c = nxt d ∧ h' = h then N else 0 := by
  unfold owedHop
  rw [Pi.add_apply, Finsupp.add_apply, tallyAt_apply, tallyAt_apply]
  have hx : ∀ x y : Xfer, (SemLoc.dma (xsem x) : SemLoc sig) = .dma (xsem y) ↔ x = y := fun x y => ⟨fun h => xsem_inj (SemLoc.dma.inj h), fun h => by rw [h]⟩
  simp only [xCell_iff, hx, Prod.mk.injEq, _root_.and_true]
  rcases he with rfl | rfl
  · simp only [show ((1 : Fin 4) = 3) = False from by decide, _root_.false_and, _root_.and_false, if_false, _root_.true_and, zero_add]
  · simp only [show ((3 : Fin 4) = 1) = False from by decide, _root_.false_and, _root_.and_false, if_false, _root_.true_and, add_zero]

theorem owed_bar (d c : Dev nD) : O₀ d (barCell c) () = (if c = nxt d then 1 else 0) + if c = prv d then 1 else 0 := by
  unfold O₀ O₁ owedFrom
  simp only [Pi.add_apply, Finsupp.add_apply, owedHop_bar, tallyAt_apply, barCell_iff, _root_.and_true, Pi.zero_apply, Finsupp.zero_apply, zero_add]
theorem owed_x (d c : Dev nD) (h : Fin 3) (e : Fin 4) (he : e = 1 ∨ e = 3) : O₀ d (xCell c (e, h)) () = if d = prv c then N else 0 := by
  have hd : c = nxt d ↔ d = prv c := ⟨fun h => by rw [h, prv_nxt], fun h => by rw [h, nxt_prv]⟩
  unfold O₀ O₁ owedFrom
  simp only [Pi.add_apply, Finsupp.add_apply, owedHop_x _ _ _ _ _ he, tallyAt_apply, (bar_ne_x _ _ _).symm, _root_.false_and, if_false, Pi.zero_apply, Finsupp.zero_apply,
    zero_add, add_zero, hd]
  by_cases hp : d = prv c
  · fin_cases h <;> simp [hp]
  · simp [hp]

theorem launch_at (g : GSem nD τ sig) (k : ℕ) (h : ∑ d, O₀ d g () = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 2 : CellTallies nD τ sig Unit) :=
  launch_at _ _ (by rw [Finset.sum_congr rfl fun d _ => owed_bar d c]; revert c; decide)
theorem launch_x (c : Dev nD) (h : Fin 3) (e : Fin 4) (he : e = 1 ∨ e = 3) :
    tallyOn (xCell c (e, h)) (launchCredit (Pipeline.owing O₀) 0 (xCell c (e, h))) = (tallyAt (xCell c (e, h)) () N : CellTallies nD τ sig Unit) :=
  launch_at _ _ (by rw [Finset.sum_congr rfl fun d _ => owed_x d c h e he, Finset.sum_ite_eq', if_pos (Finset.mem_univ _)])

/-- The semaphores a device gets credit for. -/
def credSem : Option (Bool × Fin 3) → SemLoc sig
  | none => .reg barS
  | some (false, h) => .dma (xsem (1, h))
  | some (true, h) => .dma (xsem (3, h))
theorem credSem_injective : Function.Injective credSem := by
  have hx : ∀ {e e' : Fin 4} {h h' : Fin 3}, (SemLoc.dma (xsem (e, h)) : SemLoc sig) = .dma (xsem (e', h')) → e = e' ∧ h = h' :=
    fun he => Prod.mk.inj (xsem_inj (SemLoc.dma.inj he))
  have hb : ∀ {x : Xfer}, (SemLoc.reg barS : SemLoc sig) ≠ .dma (xsem x) := fun he => by simp at he
  rintro (_ | ⟨_ | _, h⟩) (_ | ⟨_ | _, h'⟩) he
  · rfl
  · exact absurd he hb
  · exact absurd he hb
  · exact absurd he.symm hb
  · rw [(hx he).2]
  · exact absurd (hx he).1 (by decide)
  · exact absurd he.symm hb
  · exact absurd (hx he).1 (by decide)
  · rw [(hx he).2]

/-- The credits a device starts with. -/
def credits (c : Dev nD) : sProp 𝕄 :=
  iprop(cred (tallyAt (barCell c) () 2)
    ∗ bigSep Finset.univ fun h : Fin 3 => iprop(cred (tallyAt (xCell c (1, h)) () N) ∗ cred (tallyAt (xCell c (3, h)) () N)))

theorem launch_credits (c : Dev nD) : (Pipeline.launchCred O₀ c : sProp 𝕄) ⊢ credits c := by
  refine (sep_along ⟨credSem, credSem_injective⟩ _).trans (Entails.of_eq ?_)
  rw [sep_option, bigSep_univ_prod, sep_bool]
  unfold credits
  rw [bigSep_sep']
  refine congrArg₂ (fun P Q : sProp 𝕄 => iprop(P ∗ Q)) (congrArg cred (launch_bar c)) ?_
  exact congrArg₂ (fun P Q : sProp 𝕄 => iprop(P ∗ Q)) (bigSep_congr fun h _ => congrArg cred (launch_x c h 1 (.inl rfl)))
    (bigSep_congr fun h _ => congrArg cred (launch_x c h 3 (.inr rfl)))

/-! ## What a device's body takes of them -/

theorem bags (c : Dev nD) : (iprop(credits c ∗ places c ∗ payToks c) : sProp 𝕄) ⊢ iprop(barBag c ∗ hopBag c 0 ∗ hopBag c 1 ∗ hopBag c 2) := by
  unfold credits places payToks barBag hopBag
  rw [sep_option, bigSep_univ_prod, sep_four, sep_three, sep_three, sep_three, sep_three, sep_three, sep_three]
  iintro ⟨⟨Hcb, ⟨Hc0, Hc1, Hc2⟩⟩, ⟨Hb, ⟨H00, H01, H02⟩, ⟨H10, H11, H12⟩, ⟨H20, H21, H22⟩, H30, H31, H32⟩, ⟨Ht, Hf⟩, Ht0, Ht1, Ht2⟩
  isplitl [Ht Hf Hcb Hb]
  · isplitl [Ht]; · iexact Ht
    isplitl [Hf]; · iexact Hf
    isplitl [Hcb]; · iexact Hcb
    iexact Hb
  isplitl [Ht0 Hc0 H00 H10 H20 H30]
  · isplitl [Ht0]; · iexact Ht0
    isplitl [Hc0]; · iexact Hc0
    isplitl [H00]; · iexact H00
    isplitl [H10]; · iexact H10
    isplitl [H20]; · iexact H20
    iexact H30
  isplitl [Ht1 Hc1 H01 H11 H21 H31]
  · isplitl [Ht1]; · iexact Ht1
    isplitl [Hc1]; · iexact Hc1
    isplitl [H01]; · iexact H01
    isplitl [H11]; · iexact H11
    isplitl [H21]; · iexact H21
    iexact H31
  · isplitl [Ht2]; · iexact Ht2
    isplitl [Hc2]; · iexact Hc2
    isplitl [H02]; · iexact H02
    isplitl [H12]; · iexact H12
    isplitl [H22]; · iexact H22
    iexact H32

end Cert.KernelIdeal.Ring

end
-- ==== Proof.Ideal.Run.lean ====
/-
# The run of the four kernels

The pipeline stages each device's three arrays whole, runs the body once and writes the result back whole. So after the
run every device's result array holds the ring's result, its arguments are unchanged and every counter is at zero.
-/
module

public import proofs.«01_k».proof.Proof.Ideal.Deal
public import proofs.«01_k».proof.Proof.Gen.KernelIdeal.Launch
public import proofs.«01_k».proof.Proof.Gen.KernelIdeal.Points
public import Idealize.ShloMosaic.Lib.Pipeline.Value
public import Idealize.ShloMosaic.Lib.Pipeline.CollectiveSegs
public import Idealize.ShloMosaic.Lib.StableHlo.RunHlo

@[expose] public section

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ Ghost ℕ

variable (m : (ℓ : Loc nD τ sig) → Buf (Elt F) ℓ) (ρ : Dev nD → PrngReg)

/-! ## What the windows hold -/

/-- A device's queries, keys and values. -/
def qOf (c : Dev nD) : Vec F S4096x256 .bf16 := m ((c : Thread nD τ).loc main_arg0)
def kOf (c : Dev nD) : Vec F S4096x256 .bf16 := m ((c : Thread nD τ).loc main_arg1)
def vOf (c : Dev nD) : Vec F S4096x256 .bf16 := m ((c : Thread nD τ).loc main_arg2)
/-- The ring's result on a device. -/
def resOf (c : Dev nD) : S4096x256.Idx → Elt F .f32 := resAt (qOf m) (kOf m) (vOf m) c

theorem read_win0 (t : Fin cfg0.N) (X : S4096x256.Idx → Elt F .bf16) : (win0_0.blk t).view.read (Elt F) X = X :=
  funext fun i => congrArg X (funext fun a => Fin.ext (Window.rect_emb_val_of_index_zero win0_0 t a rfl i))
theorem read_win1 (t : Fin cfg0.N) (X : S4096x256.Idx → Elt F .bf16) : (win0_1.blk t).view.read (Elt F) X = X :=
  funext fun i => congrArg X (funext fun a => Fin.ext (Window.rect_emb_val_of_index_zero win0_1 t a rfl i))
theorem read_win2 (t : Fin cfg0.N) (X : S4096x256.Idx → Elt F .bf16) : (win0_2.blk t).view.read (Elt F) X = X :=
  funext fun i => congrArg X (funext fun a => Fin.ext (Window.rect_emb_val_of_index_zero win0_2 t a rfl i))
theorem emb_win3 (t : Fin cfg0.N) (i : S4096x256.Idx) : (win0_3.blk t).view.emb i = i :=
  funext fun a => Fin.ext (Window.rect_emb_val_of_index_zero win0_3 t a rfl i)

/-! ## The pipeline's data -/

/-- The five scratch arrays, at some contents. -/
def scratch (c : Dev nD) : sProp 𝕄 :=
  iprop((∃ f, qsPts c f) ∗ (∃ f, kgAll c f) ∗ (∃ f, vgAll c f) ∗ (∃ f, lPts c f) ∗ ∃ f, accPts c f)

/-- What a device starts from: its share of the ring, its credits, the levels. -/
def start (c : Dev nD) : sProp 𝕄 := iprop(started (kOf m) (vOf m) c ∗ credits c ∗ levAts L lv)

def dats (_ : Fin 1) (c : Dev nD) : Dat τ (Elt F) Unit ℕ Ghost ℕ cfg0 c where
  A w := m ((cfg0.win w).arr.view.loc (c : Thread nD τ))
  after w _ := match w with
    | ⟨0, _⟩ => qOf m c
    | ⟨1, _⟩ => kOf m c
    | ⟨2, _⟩ => vOf m c
    | ⟨3, _⟩ => resOf m c
  Φ t := match t with
    | ⟨0, _⟩ => iprop(start m c ∗ scratch c)
    | ⟨_ + 1, _⟩ => iprop(counters c ∗ scratch c)
  q _ := fullShare
  owed t := match t with
    | ⟨0, _⟩ => O₀ c
    | ⟨_ + 1, _⟩ => 0

theorem sep_windows (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem owns_whole (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_q (c : Dev nD) (d) : (dats (F := F) m 0 c).before (0 : Fin 4) t0_0 d = qOf m c := by
  unfold Dat.before; rw [if_pos (fetch0_0 t0_0)]; exact read_win0 (F := F) t0_0 _
theorem before_k (c : Dev nD) (d) : (dats (F := F) m 0 c).before (1 : Fin 4) t0_0 d = kOf m c := by
  unfold Dat.before; rw [if_pos (fetch0_1 t0_0)]; exact read_win1 (F := F) t0_0 _
theorem before_v (c : Dev nD) (d) : (dats (F := F) m 0 c).before (2 : Fin 4) t0_0 d = vOf m c := by
  unfold Dat.before; rw [if_pos (fetch0_2 t0_0)]; exact read_win2 (F := F) t0_0 _

/-! ## The body -/

def given (c : Dev nD) : sProp 𝕄 :=
  iprop((start m c ∗ scratch c) ∗ (dats m 0 c).owesAt () t0_0.castSucc
    ∗ (∃ d, staged c cc0_stg0_0 ((dats m 0 c).before (0 : Fin 4) t0_0 d))
    ∗ (∃ d, staged c cc0_stg1_0 ((dats m 0 c).before (1 : Fin 4) t0_0 d))
    ∗ (∃ d, staged c cc0_stg2_0 ((dats m 0 c).before (2 : Fin 4) t0_0 d))
    ∗ (∃ d, staged c cc0_stg3_0 ((dats m 0 c).before (3 : Fin 4) t0_0 d)))

def left (c : Dev nD) : sProp 𝕄 :=
  iprop((counters c ∗ scratch c) ∗ (dats m 0 c).owesAt () t0_0.succ
    ∗ staged c cc0_stg0_0 (qOf m c) ∗ staged c cc0_stg1_0 (kOf m c) ∗ staged c cc0_stg2_0 (vOf m c) ∗ staged c cc0_stg3_0 (resOf m c))

theorem run_body (c : Dev nD) :
    given m c ⊢ wp frame (wpE (defs₀ (F := F)) 𝒱r (c : Thread nD τ) none) Set.univ stages (fun _ => left m c) := by
  unfold given start started scratch Dat.owesAt Pipeline.owesWithin
  simp only [before_q, before_k, before_v]
  iintro ⟨⟨⟨⟨%K, #HR, Hat, Htok⟩, Hcr, Hlev⟩, Hs⟩, ⟨%W, -, HO⟩, ⟨%d0, %f0, %e0, Hq⟩, ⟨%d1, %f1, %e1, Hk⟩, ⟨%d2, %f2, %e2, Hv⟩, ⟨%d3, %f3, -, Ho⟩⟩
  subst e0 e1 e2
  ihave Hb := (bags (F := F) c) $$ [Hcr Hat Htok]
  · isplitl [Hcr]; · iexact Hcr
    isplitl [Hat] <;> iassumption
  icases Hb with ⟨Hb, H0, H1, H2⟩
  iapply (wp_stages (qOf m) (kOf m) (vOf m) K c f3 fun _ => left m c)
  isplitr []
  · isplitr; · iexact HR
    isplitl [Hlev]; · iexact Hlev
    unfold bodyPre
    isplitl [HO]; · unfold owing; iexists W; iexact HO
    isplitl [Hb]; · iexact Hb
    isplitl [H0]; · iexact H0
    isplitl [H1]; · iexact H1
    isplitl [H2]; · iexact H2
    isplitl [Hs]; · iexact Hs
    unfold qPts kPts vPts outPts
    isplitl [Hq]; · iexact Hq
    isplitl [Hk]; · iexact Hk
    isplitl [Hv]; · iexact Hv
    iexact Ho
  · unfold bodyPost left owing scratch Dat.owesAt Pipeline.owesWithin
    iintro ⟨⟨%W', HO⟩, Hz, Hs, Hq, Hk, Hv, Ho⟩
    isplitl [Hz Hs]
    · isplitl [Hz]; · iapply (zeros_counters c); iexact Hz
      iexact Hs
    isplitl [HO]
    · iexists W'
      isplitr; · ipureintro; exact fun _ _ => Or.inl trivial
      iexact HO
    unfold qPts kPts vPts outPts
    isplitl [Hq]
    · iexists _; isplitr; · (ipureintro; rfl)
      iexact Hq
    isplitl [Hk]
    · iexists _; isplitr; · (ipureintro; rfl)
      iexact Hk
    isplitl [Hv]
    · iexists _; isplitr; · (ipureintro; rfl)
      iexact Hv
    iexists _; isplitr; · (ipureintro; rfl)
    iexact Ho

set_option maxRecDepth 4000 in
theorem body_obligation (c : Dev nD) : BodyObligation (dats (F := F) m 0 c) (defs₀ (F := F)) 𝒱r () Set.univ := fun t => by
  rw [fin_N0 t]
  rw [sep_windows, sep_windows]
  simp only [owns_whole]
  show given m c ⊢ wp frame (wpE (defs₀ (F := F)) 𝒱r c none) Set.univ
    (cc0_body (F := F) qM (Memref.isWhole_whole _) kM (Memref.isWhole_whole _) vM (Memref.isWhole_whole _) outM (Memref.isWhole_whole _)
      qsM (Memref.isWhole_whole _) kgM (Memref.isWhole_whole _) vgM (Memref.isWhole_whole _) lM (Memref.isWhole_whole _) accM (Memref.isWhole_whole _)
      cc0_scratch5 cc0_scratch6 cc0_scratch7 cc0_scratch8) (fun _ => left m c)
  rw [body_stages]
  exact run_body m c

/-! ## The launch -/

theorem ownSemFacts : Pipeline.OwnSemFacts cfg0.spec ownSem := by decide

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ started (kOf m) (vOf m) c)
      ⊢ |={Set.univ}=> iprop(start m c ∗ emp) := by
  iintro ⟨-, Hlev, Hcr, -, HG⟩
  ihave Hc := (launch_credits (F := F) c) $$ Hcr
  imodintro
  unfold start
  isplitl
  · isplitl [HG]; · iexact HG
    isplitl [Hc] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  iintro ⟨Hs, -, Hr⟩
  isplitl [Hs]; · iexact Hs
  unfold scratch qsPts kgAll vgAll lPts accPts
  iexact Hr

theorem last_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = iprop(counters c ∗ scratch c) from rfl, scopedRest0_eq, own_counters]
  iintro ⟨⟨Hu, Ho⟩, Hr⟩
  isplitl [Hu]; · iexact Hu
  isplitl [Ho]; · iexact Ho
  unfold scratch qsPts kgAll vgAll lPts accPts
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by revert c; fin_cases w <;> fin_cases s <;> decide) _ (by
      rcases t with ⟨_ | _, ht⟩
      · exact Or.inl rfl
      · exact Or.inr rfl)

/-! ## The run -/

/-- Where the run ends: every window's array as the pipeline leaves it. -/
def Ends : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
theorem run_main :
    θ_run defs (onTc (τ := τ) (main (F := F))) (⟨m, fun _ => 0, ρ⟩ : MemSt nD τ sig (Elt F)) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱r m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt (kOf m) (vOf m)) (G' := started (kOf m) (vOf m)) (u₀ := ghost₀)
    (hu₀ := by
      unfold ghost₀
      iintro Hu
      ihave H := (ownU_pair _ _) $$ Hu
      icases H with ⟨HP, HX⟩
      imod (fund_ring (kOf m) (vOf m)) $$ HX with HG
      imodintro
      isplitl [HP] <;> iassumption)
    (hglob := deal_all (kOf m) (vOf m))
    (hA := fun _ _ => rfl) (hpf := fun _ k => k.elim0)
    (X := start m) (Y := fun c => unscopedSems0 c) (Z := fun _ => iprop(emp))
    (hX := start_intro m ρ) (hin := first_intro m) (hout := last_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends holding the ring's result. -/
theorem final_res (c : Dev nD) : (dats m 0 c).arrAt (3 : Fin 4) cfg0.N = resOf m c :=
  (dats m 0 c).arrAt_eq_of_cover (3 : Fin 4) (resOf m c)
    (fun t _ => funext fun i => congrArg (resOf m c) (emb_win3 t i).symm)
    (fun i => ⟨t0_0, flush0_3 _, by have := ((cfg0.win (3 : Fin 4)).blk t0_0).view.emb_mem_set i; rwa [show ((cfg0.win (3 : Fin 4)).blk t0_0).view.emb i = i from emb_win3 t0_0 i] at this⟩)

/-- What the run ends with, array by array. -/
theorem run_ends (r : PUnit × MemSt nD τ sig (Elt F)) (h : Ends m r) (c : Dev nD) :
    r.2.mem ((c : Thread nD τ).loc main_v1) = resOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(h c (3 : Fin 4)).trans (final_res m c), (h c (0 : Fin 4)).trans ((dats m 0 c).arrAt_in (0 : Fin 4) rfl _),
    (h c (1 : Fin 4)).trans ((dats m 0 c).arrAt_in (1 : Fin 4) rfl _), (h c (2 : Fin 4)).trans ((dats m 0 c).arrAt_in (2 : Fin 4) rfl _)⟩

/-- The run, from any memory: results, arguments and counters. -/
theorem ring_run :
    θ_run defs (onTc (τ := τ) (main (F := F))) (⟨m, fun _ => 0, ρ⟩ : MemSt nD τ sig (Elt F)) (fun r =>
      (∀ c : Dev nD, r.2.mem ((c : Thread nD τ).loc main_v1) = resOf m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  θ_run_mono (run_main m ρ) fun r h => ⟨run_ends m r h.1, h.2⟩

end Cert.KernelIdeal.Ring

end
-- ==== Proof.Frames.lean ====
/-
  The frames: each program ends with its arguments unchanged and every counter at zero. The kernel's come from the
  ring's run at the two readings of a float; the reference's from its generated run, and it has no counter.
-/
module

public import proofs.«01_k».proof.Defs
public import proofs.«01_k».proof.Proof.Ideal.Run
public import proofs.«01_k».proof.Proof.Bits.Run
public import proofs.«01_k».proof.Proof.Gen.ReferenceIdeal
public import proofs.«01_k».proof.Proof.Gen.ReferenceIdeal.Run
public import Idealize.ShloMosaic.Lib.Claim

@[expose] public section

noncomputable section

namespace Cert.Proof

open Idealize.ShloMosaic Idealize.SL.Sem

theorem frame_bits : quiescent_Kernel (hKernel := Cert.Kernel.Gen.facts) := fun m g _ =>
  θ_run_mono (Cert.Kernel.Ring.ring_run m g) fun _ h => ⟨fun c => (h.1 c).2, h.2⟩

theorem frame_ideal : quiescent_KernelIdeal (hKernelIdeal := Cert.KernelIdeal.Gen.facts) := fun m g _ =>
  θ_run_mono (Cert.KernelIdeal.Ring.ring_run m g) fun _ h => ⟨fun c => (h.1 c).2, h.2⟩

theorem frame_ref : quiescent_ReferenceIdeal (hReferenceIdeal := Cert.ReferenceIdeal.Gen.facts) := fun m g _ =>
  θ_run_mono (Cert.ReferenceIdeal.Value.run m g) fun r h => ⟨fun c => (h c).2, by
    funext ⟨_, s⟩
    cases s with
    | reg s => exact Fin.elim0 s
    | dma s => exact Fin.elim0 s⟩

end Cert.Proof

end
-- ==== Proof.Ideal.BlockValue.lean ====
/-
  One block of query rows against one block of keys and values, read at an element: the row's sum of
  exponentials, and the sum of those times the values. A score is the exact dot product of a scaled query row
  with a key row.
-/
module

public import proofs.«01_k».proof.Proof.Ideal.Values
public import Idealize.ShloMosaic.Lib.Pointwise
public import Idealize.ShloMosaic.Lib.IdealHost

@[expose] public section

set_option maxRecDepth 16384

noncomputable section

namespace Cert.KernelIdeal.Ring

open Cert.KernelIdeal Cert.KernelIdeal.Gen

open Idealize.ShloMosaic

section
variable (q : Vec Ideal S512x256 .bf16) (k v : Vec Ideal S1x4096x256 .bf16)
  (a : Vec Ideal S512x256 .f32) (l : Vec Ideal S512x1 .f32)

/-- The exponential of row `r`'s score with key `j`. -/
def expRow (r : Fin 512) (j : Fin 4096) : EReal :=
  Ideal.exp (∑ d : Fin 256, q (ix2 r d) * k (ix3 0 j d))
/-- What one block adds to row `r`'s sum of exponentials, and to the element of column `d` of its sum of products. -/
def denRow (r : Fin 512) : EReal := ∑ j : Fin 4096, expRow q k r j
def numRow (r : Fin 512) (d : Fin 256) : EReal := ∑ j : Fin 4096, expRow q k r j * v (ix3 0 j d)

theorem pay6_at (r : Fin 512) : k0_pay6 q k (ix2 r 0) = denRow q k r := by
  pointwise [k0_pay6, k0_pay5, denRow, expRow]

theorem pay7_at (r : Fin 512) (d : Fin 256) : k0_pay7 q k v (ix2 r d) = numRow q k v r d := by
  pointwise [k0_pay7, k0_pay5, numRow, expRow]

theorem pay9_at (r : Fin 512) : k0_pay9 q k l (ix2 r 0) = l (ix2 r 0) + denRow q k r := by
  pointwise [k0_pay9, k0_pay8, denRow, expRow]

theorem pay10_at (r : Fin 512) (d : Fin 256) : k0_pay10 q k v a (ix2 r d) = a (ix2 r d) + numRow q k v r d := by
  pointwise [k0_pay10, k0_pay8, numRow, expRow]

theorem pay12_at (r : Fin 512) : k0_pay12 q k l (ix2 r 0) = l (ix2 r 0) + denRow q k r := by
  pointwise [k0_pay12, k0_pay11, denRow, expRow]

theorem pay13_at (r : Fin 512) (d : Fin 256) : k0_pay13 q k v a (ix2 r d) = a (ix2 r d) + numRow q k v r d := by
  pointwise [k0_pay13, k0_pay11, numRow, expRow]

theorem pay1_at (r : Fin 512) (d : Fin 256) :
    k0_pay1 q k v a l (ix2 r d)
      = Ideal.div (a (ix2 r d) + numRow q k v r d) (l (ix2 r 0) + denRow q k r) := by
  pointwise [k0_pay1, numRow, denRow, expRow]

end

/-- The scaled queries, and the keys and values in their slots. -/
theorem pay4_at (x : Vec Ideal S4096x256 .bf16) (i : Fin 4096) (d : Fin 256) :
    k0_pay4 x (ix2 i d) = x (ix2 i d) * (((1 : ℝ) / 16 : ℝ) : EReal) := by
  pointwise [k0_pay4, Ideal.ofBits_sixteenth_bf16]

theorem pay2_at (x : Vec Ideal S4096x256 .bf16) (j : Fin 4096) (d : Fin 256) : k0_pay2 x (ix3 0 j d) = x (ix2 j d) := by
  pointwise [k0_pay2]

theorem pay3_at (x : Vec Ideal S4096x256 .bf16) (j : Fin 4096) (d : Fin 256) : k0_pay3 x (ix3 0 j d) = x (ix2 j d) := by
  pointwise [k0_pay3]

end Cert.KernelIdeal.Ring

end
-- ==== Proof.Ideal.ArrayValue.lean ====
/-
  The result of one device as a formula over the devices' blocks: the numerators of the four blocks that reach the
  device, added in the order they come, divided by their denominators.
-/
module

public import proofs.«01_k».proof.Proof.Ideal.BlockValue

@[expose] public section

set_option maxRecDepth 16384

noncomputable section

namespace Cert.KernelIdeal.Ring

open Cert.KernelIdeal Cert.KernelIdeal.Gen

open Idealize.ShloMosaic

section Rows
variable {α : Type} {n : ℕ}

/-- Row `i` is row `i % 512` of block `i / 512`. -/
def blk (i : Fin 4096) : Fin 8 := ⟨i.val / 512, by omega⟩
def sub (i : Fin 4096) : Fin 512 := ⟨i.val % 512, Nat.mod_lt _ (by decide)⟩

theorem stack_at (g : Fin 8 → (Short n).Idx → α) (i : Fin 4096) (d : Fin n) :
    stack g (ix2 i d) = g (blk i) (ix2 (sub i) d) := by
  have h : inBlk (n := n) (ix2 i d) = ix2 (sub i) d := by
    funext a
    match a with
    | ⟨0, _⟩ => rfl
    | ⟨1, _⟩ => rfl
  unfold stack
  rw [h]
  rfl

theorem rowBlk_at (f : (Tall n).Idx → α) (i : Fin 4096) (d : Fin n) :
    rowBlk f (blk i) (ix2 (sub i) d) = f (ix2 i d) := by
  unfold rowBlk
  refine congrArg f ?_
  funext a
  match a with
  | ⟨0, _⟩ =>
    refine Fin.ext ?_
    show 512 * (i.val / 512) + i.val % 512 = i.val
    omega
  | ⟨1, _⟩ => rfl

end Rows

section
variable (qX kX vX : Dev nD → Vec Ideal S4096x256 .bf16) (c : Dev nD)

/-- The exponential of the score of query row `i` of device `c` with row `j` of the keys of the device `h` places back,
    and its sums over those keys. -/
def expAt (h : Fin 4) (i j : Fin 4096) : EReal :=
  Ideal.exp (∑ d : Fin 256, qX c (ix2 i d) * (((1 : ℝ) / 16 : ℝ) : EReal) * kX (back h c) (ix2 j d))
def denAt (h : Fin 4) (i : Fin 4096) : EReal := ∑ j : Fin 4096, expAt qX kX c h i j
def numAt (h : Fin 4) (i : Fin 4096) (d : Fin 256) : EReal :=
  ∑ j : Fin 4096, expAt qX kX c h i j * vX (back h c) (ix2 j d)

theorem expRow_at (h : Fin 4) (i j : Fin 4096) :
    expRow (rowBlk (qsAt qX c) (blk i)) (keysAt kX c h) (sub i) j = expAt qX kX c h i j := by
  unfold expRow expAt
  refine congrArg _ (Finset.sum_congr rfl fun d _ => ?_)
  rw [rowBlk_at, qsAt, pay4_at, keysAt, pay2_at]

theorem denRow_at (h : Fin 4) (i : Fin 4096) :
    denRow (rowBlk (qsAt qX c) (blk i)) (keysAt kX c h) (sub i) = denAt qX kX c h i :=
  Finset.sum_congr rfl fun j _ => expRow_at qX kX c h i j

theorem numRow_at (h : Fin 4) (i : Fin 4096) (d : Fin 256) :
    numRow (rowBlk (qsAt qX c) (blk i)) (keysAt kX c h) (valsAt vX c h) (sub i) d = numAt qX kX vX c h i d :=
  Finset.sum_congr rfl fun j _ => by rw [expRow_at, valsAt, pay3_at]

theorem l0_at (i : Fin 4096) : l0 qX kX c (ix2 i 0) = denAt qX kX c 0 i := by
  rw [l0, stack_at, pay6_at, denRow_at]

theorem l1_at (i : Fin 4096) : l1 qX kX c (ix2 i 0) = denAt qX kX c 0 i + denAt qX kX c 1 i := by
  rw [l1, stack_at, pay9_at, denRow_at, rowBlk_at, l0_at]

theorem l2_at (i : Fin 4096) :
    l2 qX kX c (ix2 i 0) = denAt qX kX c 0 i + denAt qX kX c 1 i + denAt qX kX c 2 i := by
  rw [l2, stack_at, pay12_at, denRow_at, rowBlk_at, l1_at]

variable (i : Fin 4096) (d : Fin 256)

theorem a0_at : a0 qX kX vX c (ix2 i d) = numAt qX kX vX c 0 i d := by
  rw [a0, stack_at, pay7_at, numRow_at]

theorem a1_at : a1 qX kX vX c (ix2 i d) = numAt qX kX vX c 0 i d + numAt qX kX vX c 1 i d := by
  rw [a1, stack_at, pay10_at, numRow_at, rowBlk_at, a0_at]

theorem a2_at :
    a2 qX kX vX c (ix2 i d) = numAt qX kX vX c 0 i d + numAt qX kX vX c 1 i d + numAt qX kX vX c 2 i d := by
  rw [a2, stack_at, pay13_at, numRow_at, rowBlk_at, a1_at]

/-- The result: the four blocks' numerators over their denominators. -/
theorem resAt_at :
    resAt qX kX vX c (ix2 i d) = Ideal.div (∑ h : Fin 4, numAt qX kX vX c h i d) (∑ h : Fin 4, denAt qX kX c h i) := by
  rw [resAt, stack_at, pay1_at, numRow_at, denRow_at, rowBlk_at, rowBlk_at, a2_at, l2_at, Fin.sum_univ_four,
    Fin.sum_univ_four]

end

end Cert.KernelIdeal.Ring

end
-- ==== Proof.RefValue.lean ====
/-
  The reference's result read at an element.
-/
module

public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

set_option maxRecDepth 16384

noncomputable section
namespace Cert.ReferenceIdeal.Value
open Cert.ReferenceIdeal Cert.ReferenceIdeal.Gen
open Idealize.ShloMosaic

/-- The reference in stages: the scores, a row's greatest score, the weights before and after the division, and the
    result. -/
def scores (q k : FVec Ideal S16384x256 .bf16) : FVec Ideal S16384x16384 .f32 :=
  Host.divf (Host.dotGeneral dot_S16384x256_S256x16384_S16384x16384_1_0_0_1_n_n none (extf .f32 q bitsLt_bf16_f32)
      (transpose S256x16384 [1, 0] (extf .f32 k bitsLt_bf16_f32) transposes_S16384x256_S256x16384_1_0))
    (broadcastInDim S16384x16384 ![] bcast_S_S16384x16384 (id (Host.sqrt (constant S_ .f32 0x43800000#32))))

def greatest (s : FVec Ideal S16384x16384 .f32) : FVec Ideal S16384 .f32 :=
  Host.reduce FloatOps.maximumf s (constant S_ .f32 0xFF800000#32) reducesTo_S16384x16384_S16384_d1 h_S_

def spread (x : FVec Ideal S16384 .f32) : FVec Ideal S16384x16384 .f32 :=
  broadcastInDim S16384x16384 ![0, 1] bcast_S16384x1_S16384x16384_0_1
    (broadcastInDim S16384x1 ![0] bcast_S16384_S16384x1_0 x)

def exps (s : FVec Ideal S16384x16384 .f32) : FVec Ideal S16384x16384 .f32 :=
  Host.exp (subf s (spread (greatest s)))

def total (e : FVec Ideal S16384x16384 .f32) : FVec Ideal S16384 .f32 :=
  Host.reduceAdd e (constant S_ .f32 0x00000000#32) reducesTo_S16384x16384_S16384_d1 h_S_

def attend (q k v : FVec Ideal S16384x256 .bf16) : FVec Ideal S16384x256 .f32 :=
  Host.dotGeneral dot_S16384x16384_S16384x256_S16384x256_1_0_0_1_n_n none
    (Host.divf (exps (scores q k)) (spread (total (exps (scores q k))))) (extf .f32 v bitsLt_bf16_f32)

theorem scores_at (q k : FVec Ideal S16384x256 .bf16) (i j : Fin 16384) :
    scores q k (ix2 i j)
      = Ideal.div (∑ d : Fin 256, q (ix2 i d) * k (ix2 j d)) (Ideal.sqrt (Ideal.ofBits .f32 0x43800000#32)) := by
  pointwise [scores]
  rfl

theorem greatest_at (s : FVec Ideal S16384x16384 .f32) (i : Fin 16384) :
    greatest s (ix1 i) = Finset.univ.fold max (Ideal.ofBits .f32 0xFF800000#32) fun j : Fin 16384 => s (ix2 i j) := by
  pointwise [greatest]

theorem spread_at (x : FVec Ideal S16384 .f32) (i j : Fin 16384) : spread x (ix2 i j) = x (ix1 i) := by
  pointwise [spread]

theorem exps_at (s : FVec Ideal S16384x16384 .f32) (i j : Fin 16384) :
    exps s (ix2 i j) = Ideal.exp (s (ix2 i j) - greatest s (ix1 i)) := by
  rw [← spread_at (greatest s) i j]
  rfl

theorem total_at (e : FVec Ideal S16384x16384 .f32) (i : Fin 16384) :
    total e (ix1 i) = ∑ j : Fin 16384, e (ix2 i j) := by
  pointwise [total]

theorem attend_at (q k v : FVec Ideal S16384x256 .bf16) (i : Fin 16384) (d : Fin 256) :
    attend q k v (ix2 i d) = ∑ j : Fin 16384,
      Ideal.div (exps (scores q k) (ix2 i j)) (∑ j' : Fin 16384, exps (scores q k) (ix2 i j')) * v (ix2 j d) := by
  rw [← total_at]
  pointwise [attend, spread]

end Cert.ReferenceIdeal.Value

end
-- ==== Proof.Softmax.lean ====
/-
  The mathematics: over the extended reals, with real scores, the weighted mean taken with a row's greatest score
  subtracted and each weight divided first is the weighted mean taken plainly and divided last. The values weighted
  may be infinite: every weight is a positive real, and a positive real distributes over any sum.
-/
module

public import Idealize.ShloMosaic.PureOps.Ideal
public import Idealize.ShloMosaic.Lib.Pointwise

@[expose] public section

noncomputable section

namespace Cert.Softmax

open Idealize.ShloMosaic

theorem bits_256 : Ideal.ofBits .f32 0x43800000#32 = ((256 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .bf16 0x7F80#16 = ⊤ := by
  simp [Ideal.ofBits, Ideal.ieee]

theorem sqrt_256 : Ideal.sqrt ((256 : ℝ) : EReal) = ((16 : ℝ) : EReal) := by
  show (if (256 : ℝ) < 0 then (⊥ : EReal) else (Real.sqrt 256 : EReal)) = _
  rw [if_neg (by norm_num), show (256 : ℝ) = 16 ^ 2 by norm_num, Real.sqrt_sq (by norm_num)]

theorem div_real {x : EReal} {y : ℝ} (hy : y ≠ 0) : Ideal.div x (y : EReal) = x * ((y⁻¹ : ℝ) : EReal) := by
  unfold Ideal.div
  rw [if_neg (by exact_mod_cast hy), EReal.coe_inv]

theorem exp_real (x : ℝ) : Ideal.exp (x : EReal) = ((Real.exp x : ℝ) : EReal) := rfl

theorem sum_real {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A nonnegative real distributes over a sum of any extended reals. -/
theorem sum_mul_real {ι : Type} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih, EReal.right_distrib_of_nonneg_of_ne_top
      (by exact_mod_cast hr) (EReal.coe_ne_top r)]

/-- The greatest of finitely many reals, at least one, is a real. -/
theorem fold_max_real {ι : Type} [Fintype ι] [Nonempty ι] (f : ι → ℝ) :
    ∃ m : ℝ, Finset.univ.fold max (⊥ : EReal) (fun j => (f j : EReal)) = (m : EReal) := by
  classical
  have h : ∀ s : Finset ι, s.fold max (⊥ : EReal) (fun j => (f j : EReal)) = ⊥ ∧ s = ∅
      ∨ ∃ m : ℝ, s.fold max (⊥ : EReal) (fun j => (f j : EReal)) = (m : EReal) := by
    intro s
    induction s using Finset.induction_on with
    | empty => exact .inl ⟨rfl, rfl⟩
    | insert a s ha ih =>
      right
      rw [Finset.fold_insert ha]
      rcases ih with ⟨h, _⟩ | ⟨m, h⟩
      · exact ⟨f a, by rw [h, max_bot_right]⟩
      · exact ⟨max (f a) m, by rw [h]; exact (EReal.coe_strictMono.monotone.map_max).symm⟩
  rcases h Finset.univ with ⟨_, h⟩ | h
  · exact absurd h (Finset.univ_nonempty.ne_empty)
  · exact h

/-- The score of a real query with a real key, the scale applied to the query or to the product. -/
theorem score_eq {D : ℕ} (q k : Fin D → ℝ) :
    Ideal.div (∑ d, (q d : EReal) * (k d : EReal)) (Ideal.sqrt (Ideal.ofBits .f32 0x43800000#32))
      = ((∑ d, q d * (1 / 16) * k d : ℝ) : EReal) := by
  rw [bits_256, sqrt_256, div_real (by norm_num)]
  simp only [← EReal.coe_mul]
  rw [sum_real, ← EReal.coe_mul, Finset.sum_mul]
  refine congrArg _ (Finset.sum_congr rfl fun d _ => ?_)
  ring

theorem scaled_score {D : ℕ} (q k : Fin D → ℝ) :
    ∑ d, (q d : EReal) * (((1 : ℝ) / 16 : ℝ) : EReal) * (k d : EReal) = ((∑ d, q d * (1 / 16) * k d : ℝ) : EReal) := by
  simp only [← EReal.coe_mul]
  exact sum_real _ _

/-- The two ways of taking the weighted mean agree. -/
theorem mean_eq {ι : Type} [Fintype ι] [Nonempty ι] (s : ι → ℝ) (v : ι → EReal) :
    ∑ j, Ideal.div (Ideal.exp ((s j : EReal) - Finset.univ.fold max ⊥ fun j => (s j : EReal)))
          (∑ j', Ideal.exp ((s j' : EReal) - Finset.univ.fold max ⊥ fun j => (s j : EReal))) * v j
      = Ideal.div (∑ j, Ideal.exp (s j) * v j) (∑ j, Ideal.exp (s j)) := by
  obtain ⟨m, hm⟩ := fold_max_real s
  rw [hm]
  simp only [← EReal.coe_sub, exp_real, sum_real]
  have hL : 0 < ∑ j, Real.exp (s j) := Finset.sum_pos (fun j _ => Real.exp_pos _) Finset.univ_nonempty
  have hL' : 0 < ∑ j, Real.exp (s j - m) := Finset.sum_pos (fun j _ => Real.exp_pos _) Finset.univ_nonempty
  rw [div_real hL.ne', sum_mul_real _ _ (inv_nonneg.mpr hL.le)]
  refine Finset.sum_congr rfl fun j _ => ?_
  rw [div_real hL'.ne', ← EReal.coe_mul, mul_right_comm, ← EReal.coe_mul]
  refine congrArg (fun x : ℝ => (x : EReal) * v j) ?_
  have h : ∑ j, Real.exp (s j - m) = (∑ j, Real.exp (s j)) * (Real.exp m)⁻¹ := by
    rw [Finset.sum_mul]
    exact Finset.sum_congr rfl fun j _ => by rw [Real.exp_sub, div_eq_mul_inv]
  rw [h, Real.exp_sub, div_eq_mul_inv, mul_inv, inv_inv]
  have := (Real.exp_pos m).ne'
  field_simp

end Cert.Softmax

end
-- ==== Proof.Equation.lean ====
/-
  The equation of the value claim: where the devices hold the blocks of the whole arrays, and the whole queries and
  keys are real, a device's result is its block of the reference's result.
-/
module

public import proofs.«01_k».proof.Proof.Ideal.ArrayValue
public import proofs.«01_k».proof.Proof.RefValue
public import proofs.«01_k».proof.Proof.Softmax
public import Idealize.ShloMosaic.Lib.Layout

@[expose] public section

set_option maxRecDepth 16384

noncomputable section

namespace Cert.Proof

open Idealize.ShloMosaic
open Cert.KernelIdeal.Ring (back resAt resAt_at expAt denAt numAt)
open Cert.ReferenceIdeal.Value (attend attend_at exps_at scores_at greatest_at)

/-- A whole array, and one device's block of it. -/
abbrev Whole : Shape := ⟨2, ![16384, 256]⟩
abbrev Part : Shape := ⟨2, ![4096, 256]⟩
abbrev part {α : Type} (f : Whole.Idx → α) (c : Fin 4) : Part.Idx → α := Layout.block Part Whole 0 4 c f

/-- Row `i` of block `c` in the whole array. -/
def glob (c : Fin 4) (i : Fin 4096) : Fin 16384 := finProdFinEquiv (m := 4) (n := 4096) (c, i)

theorem part_at {α : Type} (f : Whole.Idx → α) (c : Fin 4) (i : Fin 4096) (d : Fin 256) :
    part f c (ix2 i d) = f (ix2 (glob c i) d) := by
  refine congrArg f ?_
  funext b
  refine Fin.ext ?_
  match b with
  | ⟨0, _⟩ => show c.val * 4096 + i.val = i.val + 4096 * c.val; omega
  | ⟨1, _⟩ => rfl

/-- A sum over the blocks in the order they come to a device, each over its rows, is the sum over all the rows. -/
theorem sum_blocks (c : Fin 4) (f : Fin 16384 → EReal) :
    ∑ h : Fin 4, ∑ j : Fin 4096, f (glob (back h c) j) = ∑ x : Fin 16384, f x := by
  have hb : ∀ h : Fin 4, back (back h c) c = h := by revert c; decide
  let e : Fin 4 ≃ Fin 4 := ⟨fun h => back h c, fun h => back h c, hb, hb⟩
  refine (Equiv.sum_comp e (fun b : Fin 4 => ∑ j : Fin 4096, f (glob b j))).trans ?_
  rw [← Equiv.sum_comp (finProdFinEquiv (m := 4) (n := 4096)) f, Fintype.sum_prod_type]
  rfl

variable (q k : Whole.Idx → ℝ) (v : Whole.Idx → EReal)

/-- The score of row `i` of the queries with row `j` of the keys. -/
def score (i j : Fin 16384) : ℝ := ∑ d : Fin 256, q (ix2 i d) * (1 / 16) * k (ix2 j d)

/-- An element of the softmax-weighted mean of the values, the whole sums divided last. -/
def mean (i : Fin 16384) (d : Fin 256) : EReal :=
  Ideal.div (∑ j : Fin 16384, Ideal.exp (score q k i j) * v (ix2 j d)) (∑ j : Fin 16384, Ideal.exp (score q k i j))

theorem attend_eq (i : Fin 16384) (d : Fin 256) :
    attend (fun x => (q x : EReal)) (fun x => (k x : EReal)) v (ix2 i d) = mean q k v i d := by
  have hs : ∀ j : Fin 16384, Cert.ReferenceIdeal.Value.scores (fun x => (q x : EReal)) (fun x => (k x : EReal)) (ix2 i j)
      = (score q k i j : EReal) := fun j => by rw [scores_at]; exact Softmax.score_eq _ _
  rw [attend_at]
  simp only [exps_at, greatest_at, hs, Softmax.bits_bot]
  exact Softmax.mean_eq (fun j => score q k i j) fun j => v (ix2 j d)

theorem expAt_eq (c h : Fin 4) (i j : Fin 4096) :
    expAt (part fun x => (q x : EReal)) (part fun x => (k x : EReal)) c h i j
      = Ideal.exp (score q k (glob c i) (glob (back h c) j)) := by
  unfold expAt
  simp only [part_at]
  exact congrArg _ (Softmax.scaled_score _ _)

theorem resAt_eq (c : Fin 4) (i : Fin 4096) (d : Fin 256) :
    resAt (F := Ideal) (part fun x => (q x : EReal)) (part fun x => (k x : EReal)) (part v) c (ix2 i d) = mean q k v (glob c i) d := by
  rw [resAt_at]
  simp only [denAt, numAt, expAt_eq, part_at]
  rw [sum_blocks c fun x => Ideal.exp (score q k (glob c i) x) * v (ix2 x d),
    sum_blocks c fun x => Ideal.exp (score q k (glob c i) x)]
  rfl

/-- The equation. -/
theorem result_eq (c : Fin 4) :
    resAt (F := Ideal) (part fun x => (q x : EReal)) (part fun x => (k x : EReal)) (part v) c
      = part (attend (fun x => (q x : EReal)) (fun x => (k x : EReal)) v) c := by
  funext x
  obtain ⟨i, d, rfl⟩ : ∃ (i : Fin 4096) (d : Fin 256), x = ix2 i d := ⟨x 0, x 1, eq_ix2 x⟩
  rw [resAt_eq, part_at, attend_eq]

end Cert.Proof

end
-- ==== Proof.Algebraic.lean ====
/-
  The value claim: from the precondition, which is read of each device's blocks, the whole queries and keys are real;
  then the kernel's run and the reference's run end at the two sides of the equation.
-/
module

public import proofs.«01_k».proof.Proof.Frames
public import proofs.«01_k».proof.Proof.Equation

@[expose] public section

set_option maxRecDepth 16384

noncomputable section

namespace Cert.Proof

open Idealize.ShloMosaic Idealize.SL.Sem

/-- The side conditions of the precondition's text, at one device's blocks and at the whole arrays. -/
theorem pre_block_facts : Cert.Pre_finite_scores_KernelIdeal.Facts := ⟨by decide⟩
theorem pre_whole_facts : Cert.Pre_finite_scores_ReferenceIdeal.Facts := ⟨by decide⟩

/-- A number whose magnitude is below infinity is a real. -/
theorem real_of_abs {x : EReal} (h : Ideal.cmp .olt (max x (-x)) (Ideal.ofBits .bf16 0x7F80#16) = 1#1) :
    ∃ r : ℝ, x = (r : EReal) := by
  rw [Softmax.bits_top] at h
  induction x using EReal.rec with
  | bot => simp [Ideal.cmp] at h
  | coe r => exact ⟨r, rfl⟩
  | top => simp [Ideal.cmp] at h

/-- What the precondition says of one device's blocks. -/
theorem pre_real [Cert.Pre_finite_scores_KernelIdeal.Facts] {q k v : FVec Ideal Part .bf16}
    (h : (Cert.Pre_finite_scores_KernelIdeal.fn (F := Ideal) q k v).1 = (fun _ => 1#1)
      ∧ (Cert.Pre_finite_scores_KernelIdeal.fn (F := Ideal) q k v).2 = (fun _ => 1#1)) :
    (∀ x, ∃ r : ℝ, q x = (r : EReal)) ∧ ∀ x, ∃ r : ℝ, k x = (r : EReal) :=
  ⟨fun x => real_of_abs (congrFun h.1 x), fun x => real_of_abs (congrFun h.2 x)⟩

/-- An array whose blocks are real is real. -/
theorem real_whole {f : Whole.Idx → EReal} (h : ∀ (c : Fin 4) x, ∃ r : ℝ, part f c x = (r : EReal)) :
    ∃ g : Whole.Idx → ℝ, f = fun x => (g x : EReal) := by
  have h' : ∀ x, ∃ r : ℝ, f x = (r : EReal) := by
    intro x
    obtain ⟨i, d, rfl⟩ : ∃ (i : Fin 16384) (d : Fin 256), x = ix2 i d := ⟨x 0, x 1, eq_ix2 x⟩
    obtain ⟨⟨c, j⟩, rfl⟩ := (finProdFinEquiv (m := 4) (n := 4096)).surjective i
    obtain ⟨r, hr⟩ := h c (ix2 j d)
    exact ⟨r, (part_at f c j d).symm.trans hr⟩
  exact ⟨fun x => (h' x).choose, funext fun x => (h' x).choose_spec⟩

/-- The reference's arguments, on its one device. -/
abbrev refArgs (m : (ℓ : Loc Cert.ReferenceIdeal.nD Cert.ReferenceIdeal.τ Cert.ReferenceIdeal.sig) → Buf (Elt Ideal) ℓ) :
    (Whole.Idx → EReal) × (Whole.Idx → EReal) × (Whole.Idx → EReal) :=
  ⟨m ((0 : Dev Cert.ReferenceIdeal.nD).tc.loc Cert.ReferenceIdeal.main_arg0),
    m ((0 : Dev Cert.ReferenceIdeal.nD).tc.loc Cert.ReferenceIdeal.main_arg1),
    m ((0 : Dev Cert.ReferenceIdeal.nD).tc.loc Cert.ReferenceIdeal.main_arg2)⟩

theorem value : algebraic_KernelIdeal_ReferenceIdeal_pre_finite_scores_KernelIdeal
    (hKernelIdeal := Cert.KernelIdeal.Gen.facts) (hReferenceIdeal := Cert.ReferenceIdeal.Gen.facts)
    (hPre_finite_scores_KernelIdeal := pre_block_facts) := by
  letI := Cert.KernelIdeal.Gen.facts
  letI := Cert.ReferenceIdeal.Gen.facts
  letI := pre_block_facts
  intro m g m' g' hpre hagree
  have hreal := fun c => pre_real (hpre c)
  obtain ⟨q, eq⟩ := real_whole (f := (refArgs m').1) fun c x =>
    let ⟨r, h⟩ := (hreal c).1 x
    ⟨r, (congrFun (hagree c).1 x).symm.trans h⟩
  obtain ⟨k, ek⟩ := real_whole (f := (refArgs m').2.1) fun c x =>
    let ⟨r, h⟩ := (hreal c).2 x
    ⟨r, (congrFun (hagree c).2.1 x).symm.trans h⟩
  have hq : Cert.KernelIdeal.Ring.qOf m = part fun x => (q x : EReal) :=
    funext fun c => (hagree c).1.trans (congrArg (part · c) eq)
  have hk : Cert.KernelIdeal.Ring.kOf m = part fun x => (k x : EReal) :=
    funext fun c => (hagree c).2.1.trans (congrArg (part · c) ek)
  have hv : Cert.KernelIdeal.Ring.vOf m = part (refArgs m').2.2 := funext fun c => (hagree c).2.2
  refine ⟨Cert.ReferenceIdeal.Value.attend (refArgs m').1 (refArgs m').2.1 (refArgs m').2.2,
    θ_run_mono (Cert.KernelIdeal.Ring.ring_run m g) fun r h c => ⟨(h.1 c).1.trans ?_, (h.1 c).2⟩,
    θ_run_mono (Cert.ReferenceIdeal.Value.run m' g') fun r h => h 0⟩
  unfold Cert.KernelIdeal.Ring.resOf
  rw [hq, hk, hv, eq, ek]
  exact result_eq q k _ c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims. A frame under the precondition is the frame without it: the precondition isn't used there. -/
theorem claim : Cert.Claim :=
  ⟨Cert.Kernel.Gen.facts, Cert.KernelIdeal.Gen.facts, Cert.ReferenceIdeal.Gen.facts, pre_block_facts, pre_whole_facts,
    frame_bits, frame_ideal, fun m g _ => frame_ideal m g trivial, frame_ref, fun m g _ => frame_ref m g trivial,
    trivial, value⟩

end Cert.Proof

end
